-- ==== Defs.lean ====
def Pre_Logits (m : (ℓ : Loc Cert.Logits.nD Cert.Logits.τ Cert.Logits.sig) → Buf (Elt Bits) ℓ) : Prop :=
  True

def Pre_LogitsIdeal (m : (ℓ : Loc Cert.LogitsIdeal.nD Cert.LogitsIdeal.τ Cert.LogitsIdeal.sig) → Buf (Elt Ideal) ℓ) : Prop :=
  True

def Pre_LogitsRefIdeal (m : (ℓ : Loc Cert.LogitsRefIdeal.nD Cert.LogitsRefIdeal.τ Cert.LogitsRefIdeal.sig) → Buf (Elt Ideal) ℓ) : Prop :=
  True

def Pre_Dz (m : (ℓ : Loc Cert.Dz.nD Cert.Dz.τ Cert.Dz.sig) → Buf (Elt Bits) ℓ) : Prop :=
  True

def Pre_DzIdeal (m : (ℓ : Loc Cert.DzIdeal.nD Cert.DzIdeal.τ Cert.DzIdeal.sig) → Buf (Elt Ideal) ℓ) : Prop :=
  True

def Pre_DzRefIdeal (m : (ℓ : Loc Cert.DzRefIdeal.nD Cert.DzRefIdeal.τ Cert.DzRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Grad (m : (ℓ : Loc Cert.Grad.nD Cert.Grad.τ Cert.Grad.sig) → Buf (Elt Bits) ℓ) : Prop :=
  True

def Pre_GradIdeal (m : (ℓ : Loc Cert.GradIdeal.nD Cert.GradIdeal.τ Cert.GradIdeal.sig) → Buf (Elt Ideal) ℓ) : Prop :=
  True

def Pre_GradRefIdeal (m : (ℓ : Loc Cert.GradRefIdeal.nD Cert.GradRefIdeal.τ Cert.GradRefIdeal.sig) → Buf (Elt Ideal) ℓ) : Prop :=
  True

def quiescent_Logits [hLogits : Cert.Logits.Facts] : Prop :=
  ∀ (m : (ℓ : Loc Cert.Logits.nD Cert.Logits.τ Cert.Logits.sig) → Buf (Elt Bits) ℓ) (g : Dev Cert.Logits.nD → PrngReg), Pre_Logits m →
    θ_run (Cert.Logits.defs (F := Bits)) (onTc (τ := Cert.Logits.τ) (Cert.Logits.main (F := Bits))) ⟨m, fun _ => 0, g⟩ (fun r => (∀ c : Dev Cert.Logits.nD,
      r.2.mem ((c.tc : Thread Cert.Logits.nD Cert.Logits.τ).loc Cert.Logits.main_arg0) = m ((c.tc : Thread Cert.Logits.nD Cert.Logits.τ).loc Cert.Logits.main_arg0)
      ∧ r.2.mem ((c.tc : Thread Cert.Logits.nD Cert.Logits.τ).loc Cert.Logits.main_arg1) = m ((c.tc : Thread Cert.Logits.nD Cert.Logits.τ).loc Cert.Logits.main_arg1)
      ∧ r.2.mem ((c.tc : Thread Cert.Logits.nD Cert.Logits.τ).loc Cert.Logits.main_arg2) = m ((c.tc : Thread Cert.Logits.nD Cert.Logits.τ).loc Cert.Logits.main_arg2)
      ∧ r.2.mem ((c.tc : Thread Cert.Logits.nD Cert.Logits.τ).loc Cert.Logits.main_arg3) = m ((c.tc : Thread Cert.Logits.nD Cert.Logits.τ).loc Cert.Logits.main_arg3)
      ∧ r.2.mem ((c.tc : Thread Cert.Logits.nD Cert.Logits.τ).loc Cert.Logits.main_arg4) = m ((c.tc : Thread Cert.Logits.nD Cert.Logits.τ).loc Cert.Logits.main_arg4)
      ∧ r.2.mem ((c.tc : Thread Cert.Logits.nD Cert.Logits.τ).loc Cert.Logits.main_arg5) = m ((c.tc : Thread Cert.Logits.nD Cert.Logits.τ).loc Cert.Logits.main_arg5))
      ∧ r.2.sem = fun _ => 0)

def quiescent_LogitsIdeal [hLogitsIdeal : Cert.LogitsIdeal.Facts] : Prop :=
  ∀ (m : (ℓ : Loc Cert.LogitsIdeal.nD Cert.LogitsIdeal.τ Cert.LogitsIdeal.sig) → Buf (Elt Ideal) ℓ) (g : Dev Cert.LogitsIdeal.nD → PrngReg), Pre_LogitsIdeal m →
    θ_run (Cert.LogitsIdeal.defs (F := Ideal)) (onTc (τ := Cert.LogitsIdeal.τ) (Cert.LogitsIdeal.main (F := Ideal))) ⟨m, fun _ => 0, g⟩ (fun r => (∀ c : Dev Cert.LogitsIdeal.nD,
      r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
      ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
      ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
      ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3)
      ∧ r.2.mem ((c.tc : Thread Cert.LogitsIdeal.nD Cert.LogitsIdeal.τ).loc Cert.LogitsIdeal.main_arg4) = m ((c.tc : Thread Cert.LogitsIdeal.nD Cert.LogitsIdeal.τ).loc Cert.LogitsIdeal.main_arg4)
      ∧ r.2.mem ((c.tc : Thread Cert.LogitsIdeal.nD Cert.LogitsIdeal.τ).loc Cert.LogitsIdeal.main_arg5) = m ((c.tc : Thread Cert.LogitsIdeal.nD Cert.LogitsIdeal.τ).loc Cert.LogitsIdeal.main_arg5))
      ∧ r.2.sem = fun _ => 0)

def quiescent_LogitsRefIdeal [hLogitsRefIdeal : Cert.LogitsRefIdeal.Facts] : Prop :=
  ∀ (m : (ℓ : Loc Cert.LogitsRefIdeal.nD Cert.LogitsRefIdeal.τ Cert.LogitsRefIdeal.sig) → Buf (Elt Ideal) ℓ) (g : Dev Cert.LogitsRefIdeal.nD → PrngReg), Pre_LogitsRefIdeal m →
    θ_run (Cert.LogitsRefIdeal.defs (F := Ideal)) (onTc (τ := Cert.LogitsRefIdeal.τ) (Cert.LogitsRefIdeal.main (F := Ideal))) ⟨m, fun _ => 0, g⟩ (fun r => (∀ c : Dev Cert.LogitsRefIdeal.nD,
      r.2.mem ((c.tc : Thread Cert.LogitsRefIdeal.nD Cert.LogitsRefIdeal.τ).loc Cert.LogitsRefIdeal.main_arg0) = m ((c.tc : Thread Cert.LogitsRefIdeal.nD Cert.LogitsRefIdeal.τ).loc Cert.LogitsRefIdeal.main_arg0)
      ∧ r.2.mem ((c.tc : Thread Cert.LogitsRefIdeal.nD Cert.LogitsRefIdeal.τ).loc Cert.LogitsRefIdeal.main_arg1) = m ((c.tc : Thread Cert.LogitsRefIdeal.nD Cert.LogitsRefIdeal.τ).loc Cert.LogitsRefIdeal.main_arg1)
      ∧ r.2.mem ((c.tc : Thread Cert.LogitsRefIdeal.nD Cert.LogitsRefIdeal.τ).loc Cert.LogitsRefIdeal.main_arg2) = m ((c.tc : Thread Cert.LogitsRefIdeal.nD Cert.LogitsRefIdeal.τ).loc Cert.LogitsRefIdeal.main_arg2)
      ∧ r.2.mem ((c.tc : Thread Cert.LogitsRefIdeal.nD Cert.LogitsRefIdeal.τ).loc Cert.LogitsRefIdeal.main_arg3) = m ((c.tc : Thread Cert.LogitsRefIdeal.nD Cert.LogitsRefIdeal.τ).loc Cert.LogitsRefIdeal.main_arg3)
      ∧ r.2.mem ((c.tc : Thread Cert.LogitsRefIdeal.nD Cert.LogitsRefIdeal.τ).loc Cert.LogitsRefIdeal.main_arg4) = m ((c.tc : Thread Cert.LogitsRefIdeal.nD Cert.LogitsRefIdeal.τ).loc Cert.LogitsRefIdeal.main_arg4)
      ∧ r.2.mem ((c.tc : Thread Cert.LogitsRefIdeal.nD Cert.LogitsRefIdeal.τ).loc Cert.LogitsRefIdeal.main_arg5) = m ((c.tc : Thread Cert.LogitsRefIdeal.nD Cert.LogitsRefIdeal.τ).loc Cert.LogitsRefIdeal.main_arg5))
      ∧ r.2.sem = fun _ => 0)

def quiescent_Dz [hDz : Cert.Dz.Facts] : Prop :=
  ∀ (m : (ℓ : Loc Cert.Dz.nD Cert.Dz.τ Cert.Dz.sig) → Buf (Elt Bits) ℓ) (g : Dev Cert.Dz.nD → PrngReg), Pre_Dz m →
    θ_run (Cert.Dz.defs (F := Bits)) (onTc (τ := Cert.Dz.τ) (Cert.Dz.main (F := Bits))) ⟨m, fun _ => 0, g⟩ (fun r => (∀ c : Dev Cert.Dz.nD,
      r.2.mem ((c.tc : Thread Cert.Dz.nD Cert.Dz.τ).loc Cert.Dz.main_arg0) = m ((c.tc : Thread Cert.Dz.nD Cert.Dz.τ).loc Cert.Dz.main_arg0)
      ∧ r.2.mem ((c.tc : Thread Cert.Dz.nD Cert.Dz.τ).loc Cert.Dz.main_arg1) = m ((c.tc : Thread Cert.Dz.nD Cert.Dz.τ).loc Cert.Dz.main_arg1))
      ∧ r.2.sem = fun _ => 0)

def quiescent_DzIdeal [hDzIdeal : Cert.DzIdeal.Facts] : Prop :=
  ∀ (m : (ℓ : Loc Cert.DzIdeal.nD Cert.DzIdeal.τ Cert.DzIdeal.sig) → Buf (Elt Ideal) ℓ) (g : Dev Cert.DzIdeal.nD → PrngReg), Pre_DzIdeal m →
    θ_run (Cert.DzIdeal.defs (F := Ideal)) (onTc (τ := Cert.DzIdeal.τ) (Cert.DzIdeal.main (F := Ideal))) ⟨m, fun _ => 0, g⟩ (fun r => (∀ c : Dev Cert.DzIdeal.nD,
      r.2.mem ((c.tc : Thread Cert.DzIdeal.nD Cert.DzIdeal.τ).loc Cert.DzIdeal.main_arg0) = m ((c.tc : Thread Cert.DzIdeal.nD Cert.DzIdeal.τ).loc Cert.DzIdeal.main_arg0)
      ∧ r.2.mem ((c.tc : Thread Cert.DzIdeal.nD Cert.DzIdeal.τ).loc Cert.DzIdeal.main_arg1) = m ((c.tc : Thread Cert.DzIdeal.nD Cert.DzIdeal.τ).loc Cert.DzIdeal.main_arg1))
      ∧ r.2.sem = fun _ => 0)

def quiescent_DzRefIdeal [hDzRefIdeal : Cert.DzRefIdeal.Facts] : Prop :=
  ∀ (m : (ℓ : Loc Cert.DzRefIdeal.nD Cert.DzRefIdeal.τ Cert.DzRefIdeal.sig) → Buf (Elt Ideal) ℓ) (g : Dev Cert.DzRefIdeal.nD → PrngReg), Pre_DzRefIdeal m →
    θ_run (Cert.DzRefIdeal.defs (F := Ideal)) (onTc (τ := Cert.DzRefIdeal.τ) (Cert.DzRefIdeal.main (F := Ideal))) ⟨m, fun _ => 0, g⟩ (fun r => (∀ c : Dev Cert.DzRefIdeal.nD,
      r.2.mem ((c.tc : Thread Cert.DzRefIdeal.nD Cert.DzRefIdeal.τ).loc Cert.DzRefIdeal.main_arg0) = m ((c.tc : Thread Cert.DzRefIdeal.nD Cert.DzRefIdeal.τ).loc Cert.DzRefIdeal.main_arg0)
      ∧ r.2.mem ((c.tc : Thread Cert.DzRefIdeal.nD Cert.DzRefIdeal.τ).loc Cert.DzRefIdeal.main_arg1) = m ((c.tc : Thread Cert.DzRefIdeal.nD Cert.DzRefIdeal.τ).loc Cert.DzRefIdeal.main_arg1))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Grad [hGrad : Cert.Grad.Facts] : Prop :=
  ∀ (m : (ℓ : Loc Cert.Grad.nD Cert.Grad.τ Cert.Grad.sig) → Buf (Elt Bits) ℓ) (g : Dev Cert.Grad.nD → PrngReg), Pre_Grad m →
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1)
      ∧ r.2.mem ((c.tc : Thread Cert.Grad.nD Cert.Grad.τ).loc Cert.Grad.main_arg2) = m ((c.tc : Thread Cert.Grad.nD Cert.Grad.τ).loc Cert.Grad.main_arg2)
      ∧ r.2.mem ((c.tc : Thread Cert.Grad.nD Cert.Grad.τ).loc Cert.Grad.main_arg3) = m ((c.tc : Thread Cert.Grad.nD Cert.Grad.τ).loc Cert.Grad.main_arg3)
      ∧ r.2.mem ((c.tc : Thread Cert.Grad.nD Cert.Grad.τ).loc Cert.Grad.main_arg4) = m ((c.tc : Thread Cert.Grad.nD Cert.Grad.τ).loc Cert.Grad.main_arg4))
      ∧ r.2.sem = fun _ => 0)

def quiescent_GradIdeal [hGradIdeal : Cert.GradIdeal.Facts] : Prop :=
  ∀ (m : (ℓ : Loc Cert.GradIdeal.nD Cert.GradIdeal.τ Cert.GradIdeal.sig) → Buf (Elt Ideal) ℓ) (g : Dev Cert.GradIdeal.nD → PrngReg), Pre_GradIdeal m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4))
      ∧ r.2.sem = fun _ => 0)

def quiescent_GradRefIdeal [hGradRefIdeal : Cert.GradRefIdeal.Facts] : Prop :=
  ∀ (m : (ℓ : Loc Cert.GradRefIdeal.nD Cert.GradRefIdeal.τ Cert.GradRefIdeal.sig) → Buf (Elt Ideal) ℓ) (g : Dev Cert.GradRefIdeal.nD → PrngReg), Pre_GradRefIdeal m →
    θ_run (Cert.GradRefIdeal.defs (F := Ideal)) (onTc (τ := Cert.GradRefIdeal.τ) (Cert.GradRefIdeal.main (F := Ideal))) ⟨m, fun _ => 0, g⟩ (fun r => (∀ c : Dev Cert.GradRefIdeal.nD,
      r.2.mem ((c.tc : Thread Cert.GradRefIdeal.nD Cert.GradRefIdeal.τ).loc Cert.GradRefIdeal.main_arg0) = m ((c.tc : Thread Cert.GradRefIdeal.nD Cert.GradRefIdeal.τ).loc Cert.GradRefIdeal.main_arg0)
      ∧ r.2.mem ((c.tc : Thread Cert.GradRefIdeal.nD Cert.GradRefIdeal.τ).loc Cert.GradRefIdeal.main_arg1) = m ((c.tc : Thread Cert.GradRefIdeal.nD Cert.GradRefIdeal.τ).loc Cert.GradRefIdeal.main_arg1)
      ∧ r.2.mem ((c.tc : Thread Cert.GradRefIdeal.nD Cert.GradRefIdeal.τ).loc Cert.GradRefIdeal.main_arg2) = m ((c.tc : Thread Cert.GradRefIdeal.nD Cert.GradRefIdeal.τ).loc Cert.GradRefIdeal.main_arg2)
      ∧ r.2.mem ((c.tc : Thread Cert.GradRefIdeal.nD Cert.GradRefIdeal.τ).loc Cert.GradRefIdeal.main_arg3) = m ((c.tc : Thread Cert.GradRefIdeal.nD Cert.GradRefIdeal.τ).loc Cert.GradRefIdeal.main_arg3)
      ∧ r.2.mem ((c.tc : Thread Cert.GradRefIdeal.nD Cert.GradRefIdeal.τ).loc Cert.GradRefIdeal.main_arg4) = m ((c.tc : Thread Cert.GradRefIdeal.nD Cert.GradRefIdeal.τ).loc Cert.GradRefIdeal.main_arg4))
      ∧ r.2.sem = fun _ => 0)

def preserves_Logits_LogitsIdeal : Prop :=
  True

def algebraic_LogitsIdeal_LogitsRefIdeal [hLogitsIdeal : Cert.LogitsIdeal.Facts] [hLogitsRefIdeal : Cert.LogitsRefIdeal.Facts] : Prop :=
  ∀ (m : (ℓ : Loc Cert.LogitsIdeal.nD Cert.LogitsIdeal.τ Cert.LogitsIdeal.sig) → Buf (Elt Ideal) ℓ) (g : Dev Cert.LogitsIdeal.nD → PrngReg)
    (m' : (ℓ : Loc Cert.LogitsRefIdeal.nD Cert.LogitsRefIdeal.τ Cert.LogitsRefIdeal.sig) → Buf (Elt Ideal) ℓ) (g' : Dev Cert.LogitsRefIdeal.nD → PrngReg), Pre_LogitsIdeal m →
    (∀ c : Dev Cert.LogitsIdeal.nD,
      m' ((c.tc : Thread Cert.LogitsRefIdeal.nD Cert.LogitsRefIdeal.τ).loc Cert.LogitsRefIdeal.main_arg0) = m ((c.tc : Thread Cert.LogitsIdeal.nD Cert.LogitsIdeal.τ).loc Cert.LogitsIdeal.main_arg0)
      ∧ m' ((c.tc : Thread Cert.LogitsRefIdeal.nD Cert.LogitsRefIdeal.τ).loc Cert.LogitsRefIdeal.main_arg1) = m ((c.tc : Thread Cert.LogitsIdeal.nD Cert.LogitsIdeal.τ).loc Cert.LogitsIdeal.main_arg1)
      ∧ m' ((c.tc : Thread Cert.LogitsRefIdeal.nD Cert.LogitsRefIdeal.τ).loc Cert.LogitsRefIdeal.main_arg2) = m ((c.tc : Thread Cert.LogitsIdeal.nD Cert.LogitsIdeal.τ).loc Cert.LogitsIdeal.main_arg2)
      ∧ m' ((c.tc : Thread Cert.LogitsRefIdeal.nD Cert.LogitsRefIdeal.τ).loc Cert.LogitsRefIdeal.main_arg3) = m ((c.tc : Thread Cert.LogitsIdeal.nD Cert.LogitsIdeal.τ).loc Cert.LogitsIdeal.main_arg3)
      ∧ m' ((c.tc : Thread Cert.LogitsRefIdeal.nD Cert.LogitsRefIdeal.τ).loc Cert.LogitsRefIdeal.main_arg4) = m ((c.tc : Thread Cert.LogitsIdeal.nD Cert.LogitsIdeal.τ).loc Cert.LogitsIdeal.main_arg4)
      ∧ m' ((c.tc : Thread Cert.LogitsRefIdeal.nD Cert.LogitsRefIdeal.τ).loc Cert.LogitsRefIdeal.main_arg5) = m ((c.tc : Thread Cert.LogitsIdeal.nD Cert.LogitsIdeal.τ).loc Cert.LogitsIdeal.main_arg5)) →
    ∃ (v0 : (c : Dev Cert.LogitsIdeal.nD) → Buf (Elt Ideal) ((c.tc : Thread Cert.LogitsIdeal.nD Cert.LogitsIdeal.τ).loc Cert.LogitsIdeal.main_v0_0)),
      θ_run (Cert.LogitsIdeal.defs (F := Ideal)) (onTc (τ := Cert.LogitsIdeal.τ) (Cert.LogitsIdeal.main (F := Ideal))) ⟨m, fun _ => 0, g⟩ (fun r => ∀ c : Dev Cert.LogitsIdeal.nD,
          r.2.mem ((c.tc : Thread Cert.LogitsIdeal.nD Cert.LogitsIdeal.τ).loc Cert.LogitsIdeal.main_v0_0) = v0 c
          ∧ r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
          ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
          ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
          ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3)
          ∧ r.2.mem ((c.tc : Thread Cert.LogitsIdeal.nD Cert.LogitsIdeal.τ).loc Cert.LogitsIdeal.main_arg4) = m ((c.tc : Thread Cert.LogitsIdeal.nD Cert.LogitsIdeal.τ).loc Cert.LogitsIdeal.main_arg4)
          ∧ r.2.mem ((c.tc : Thread Cert.LogitsIdeal.nD Cert.LogitsIdeal.τ).loc Cert.LogitsIdeal.main_arg5) = m ((c.tc : Thread Cert.LogitsIdeal.nD Cert.LogitsIdeal.τ).loc Cert.LogitsIdeal.main_arg5))
      ∧ θ_run (Cert.LogitsRefIdeal.defs (F := Ideal)) (onTc (τ := Cert.LogitsRefIdeal.τ) (Cert.LogitsRefIdeal.main (F := Ideal))) ⟨m', fun _ => 0, g'⟩ (fun r => ∀ c : Dev Cert.LogitsRefIdeal.nD,
          r.2.mem ((c.tc : Thread Cert.LogitsRefIdeal.nD Cert.LogitsRefIdeal.τ).loc Cert.LogitsRefIdeal.main_v0) = v0 c
          ∧ r.2.mem ((c.tc : Thread Cert.LogitsRefIdeal.nD Cert.LogitsRefIdeal.τ).loc Cert.LogitsRefIdeal.main_arg0) = m' ((c.tc : Thread Cert.LogitsRefIdeal.nD Cert.LogitsRefIdeal.τ).loc Cert.LogitsRefIdeal.main_arg0)
          ∧ r.2.mem ((c.tc : Thread Cert.LogitsRefIdeal.nD Cert.LogitsRefIdeal.τ).loc Cert.LogitsRefIdeal.main_arg1) = m' ((c.tc : Thread Cert.LogitsRefIdeal.nD Cert.LogitsRefIdeal.τ).loc Cert.LogitsRefIdeal.main_arg1)
          ∧ r.2.mem ((c.tc : Thread Cert.LogitsRefIdeal.nD Cert.LogitsRefIdeal.τ).loc Cert.LogitsRefIdeal.main_arg2) = m' ((c.tc : Thread Cert.LogitsRefIdeal.nD Cert.LogitsRefIdeal.τ).loc Cert.LogitsRefIdeal.main_arg2)
          ∧ r.2.mem ((c.tc : Thread Cert.LogitsRefIdeal.nD Cert.LogitsRefIdeal.τ).loc Cert.LogitsRefIdeal.main_arg3) = m' ((c.tc : Thread Cert.LogitsRefIdeal.nD Cert.LogitsRefIdeal.τ).loc Cert.LogitsRefIdeal.main_arg3)
          ∧ r.2.mem ((c.tc : Thread Cert.LogitsRefIdeal.nD Cert.LogitsRefIdeal.τ).loc Cert.LogitsRefIdeal.main_arg4) = m' ((c.tc : Thread Cert.LogitsRefIdeal.nD Cert.LogitsRefIdeal.τ).loc Cert.LogitsRefIdeal.main_arg4)
          ∧ r.2.mem ((c.tc : Thread Cert.LogitsRefIdeal.nD Cert.LogitsRefIdeal.τ).loc Cert.LogitsRefIdeal.main_arg5) = m' ((c.tc : Thread Cert.LogitsRefIdeal.nD Cert.LogitsRefIdeal.τ).loc Cert.LogitsRefIdeal.main_arg5))

def preserves_Dz_DzIdeal : Prop :=
  True

def algebraic_DzIdeal_DzRefIdeal [hDzIdeal : Cert.DzIdeal.Facts] [hDzRefIdeal : Cert.DzRefIdeal.Facts] : Prop :=
  ∀ (m : (ℓ : Loc Cert.DzIdeal.nD Cert.DzIdeal.τ Cert.DzIdeal.sig) → Buf (Elt Ideal) ℓ) (g : Dev Cert.DzIdeal.nD → PrngReg)
    (m' : (ℓ : Loc Cert.DzRefIdeal.nD Cert.DzRefIdeal.τ Cert.DzRefIdeal.sig) → Buf (Elt Ideal) ℓ) (g' : Dev Cert.DzRefIdeal.nD → PrngReg), Pre_DzIdeal m →
    (∀ c : Dev Cert.DzIdeal.nD,
      m' ((c.tc : Thread Cert.DzRefIdeal.nD Cert.DzRefIdeal.τ).loc Cert.DzRefIdeal.main_arg0) = m ((c.tc : Thread Cert.DzIdeal.nD Cert.DzIdeal.τ).loc Cert.DzIdeal.main_arg0)
      ∧ m' ((c.tc : Thread Cert.DzRefIdeal.nD Cert.DzRefIdeal.τ).loc Cert.DzRefIdeal.main_arg1) = m ((c.tc : Thread Cert.DzIdeal.nD Cert.DzIdeal.τ).loc Cert.DzIdeal.main_arg1)) →
    ∃ (v0 : (c : Dev Cert.DzIdeal.nD) → Buf (Elt Ideal) ((c.tc : Thread Cert.DzIdeal.nD Cert.DzIdeal.τ).loc Cert.DzIdeal.main_v0_0)) (v1 : (c : Dev Cert.DzIdeal.nD) → Buf (Elt Ideal) ((c.tc : Thread Cert.DzIdeal.nD Cert.DzIdeal.τ).loc Cert.DzIdeal.main_v0_1)),
      θ_run (Cert.DzIdeal.defs (F := Ideal)) (onTc (τ := Cert.DzIdeal.τ) (Cert.DzIdeal.main (F := Ideal))) ⟨m, fun _ => 0, g⟩ (fun r => ∀ c : Dev Cert.DzIdeal.nD,
          r.2.mem ((c.tc : Thread Cert.DzIdeal.nD Cert.DzIdeal.τ).loc Cert.DzIdeal.main_v0_0) = v0 c
          ∧ r.2.mem ((c.tc : Thread Cert.DzIdeal.nD Cert.DzIdeal.τ).loc Cert.DzIdeal.main_v0_1) = v1 c
          ∧ r.2.mem ((c.tc : Thread Cert.DzIdeal.nD Cert.DzIdeal.τ).loc Cert.DzIdeal.main_arg0) = m ((c.tc : Thread Cert.DzIdeal.nD Cert.DzIdeal.τ).loc Cert.DzIdeal.main_arg0)
          ∧ r.2.mem ((c.tc : Thread Cert.DzIdeal.nD Cert.DzIdeal.τ).loc Cert.DzIdeal.main_arg1) = m ((c.tc : Thread Cert.DzIdeal.nD Cert.DzIdeal.τ).loc Cert.DzIdeal.main_arg1))
      ∧ θ_run (Cert.DzRefIdeal.defs (F := Ideal)) (onTc (τ := Cert.DzRefIdeal.τ) (Cert.DzRefIdeal.main (F := Ideal))) ⟨m', fun _ => 0, g'⟩ (fun r => ∀ c : Dev Cert.DzRefIdeal.nD,
          r.2.mem ((c.tc : Thread Cert.DzRefIdeal.nD Cert.DzRefIdeal.τ).loc Cert.DzRefIdeal.main_v13) = v0 c
          ∧ r.2.mem ((c.tc : Thread Cert.DzRefIdeal.nD Cert.DzRefIdeal.τ).loc Cert.DzRefIdeal.main_v14) = v1 c
          ∧ r.2.mem ((c.tc : Thread Cert.DzRefIdeal.nD Cert.DzRefIdeal.τ).loc Cert.DzRefIdeal.main_arg0) = m' ((c.tc : Thread Cert.DzRefIdeal.nD Cert.DzRefIdeal.τ).loc Cert.DzRefIdeal.main_arg0)
          ∧ r.2.mem ((c.tc : Thread Cert.DzRefIdeal.nD Cert.DzRefIdeal.τ).loc Cert.DzRefIdeal.main_arg1) = m' ((c.tc : Thread Cert.DzRefIdeal.nD Cert.DzRefIdeal.τ).loc Cert.DzRefIdeal.main_arg1))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0_0)) (v1 : (c : Dev Cert.DwIdeal.nD) → Buf (Elt Ideal) ((c.tc : Thread Cert.DwIdeal.nD Cert.DwIdeal.τ).loc Cert.DwIdeal.main_v0_1)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0_0) = v0 c
          ∧ r.2.mem ((c.tc : Thread Cert.DwIdeal.nD Cert.DwIdeal.τ).loc Cert.DwIdeal.main_v0_1) = v1 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v1) = v0 c
          ∧ r.2.mem ((c.tc : Thread Cert.DwRefIdeal.nD Cert.DwRefIdeal.τ).loc Cert.DwRefIdeal.main_v4) = v1 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Grad_GradIdeal : Prop :=
  True

def algebraic_GradIdeal_GradRefIdeal [hGradIdeal : Cert.GradIdeal.Facts] [hGradRefIdeal : Cert.GradRefIdeal.Facts] : Prop :=
  ∀ (m : (ℓ : Loc Cert.GradIdeal.nD Cert.GradIdeal.τ Cert.GradIdeal.sig) → Buf (Elt Ideal) ℓ) (g : Dev Cert.GradIdeal.nD → PrngReg)
    (m' : (ℓ : Loc Cert.GradRefIdeal.nD Cert.GradRefIdeal.τ Cert.GradRefIdeal.sig) → Buf (Elt Ideal) ℓ) (g' : Dev Cert.GradRefIdeal.nD → PrngReg), Pre_GradIdeal m →
    (∀ c : Dev Cert.GradIdeal.nD,
      m' ((c.tc : Thread Cert.GradRefIdeal.nD Cert.GradRefIdeal.τ).loc Cert.GradRefIdeal.main_arg0) = m ((c.tc : Thread Cert.GradIdeal.nD Cert.GradIdeal.τ).loc Cert.GradIdeal.main_arg0)
      ∧ m' ((c.tc : Thread Cert.GradRefIdeal.nD Cert.GradRefIdeal.τ).loc Cert.GradRefIdeal.main_arg1) = m ((c.tc : Thread Cert.GradIdeal.nD Cert.GradIdeal.τ).loc Cert.GradIdeal.main_arg1)
      ∧ m' ((c.tc : Thread Cert.GradRefIdeal.nD Cert.GradRefIdeal.τ).loc Cert.GradRefIdeal.main_arg2) = m ((c.tc : Thread Cert.GradIdeal.nD Cert.GradIdeal.τ).loc Cert.GradIdeal.main_arg2)
      ∧ m' ((c.tc : Thread Cert.GradRefIdeal.nD Cert.GradRefIdeal.τ).loc Cert.GradRefIdeal.main_arg3) = m ((c.tc : Thread Cert.GradIdeal.nD Cert.GradIdeal.τ).loc Cert.GradIdeal.main_arg3)
      ∧ m' ((c.tc : Thread Cert.GradRefIdeal.nD Cert.GradRefIdeal.τ).loc Cert.GradRefIdeal.main_arg4) = m ((c.tc : Thread Cert.GradIdeal.nD Cert.GradIdeal.τ).loc Cert.GradIdeal.main_arg4)) →
    ∃ (v0 : (c : Dev Cert.GradIdeal.nD) → Buf (Elt Ideal) ((c.tc : Thread Cert.GradIdeal.nD Cert.GradIdeal.τ).loc Cert.GradIdeal.main_v1)),
      θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v1) = v0 c
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
          ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
          ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
          ∧ r.2.mem ((c.tc : Thread Cert.GradIdeal.nD Cert.GradIdeal.τ).loc Cert.GradIdeal.main_arg4) = m ((c.tc : Thread Cert.GradIdeal.nD Cert.GradIdeal.τ).loc Cert.GradIdeal.main_arg4))
      ∧ θ_run (Cert.GradRefIdeal.defs (F := Ideal)) (onTc (τ := Cert.GradRefIdeal.τ) (Cert.GradRefIdeal.main (F := Ideal))) ⟨m', fun _ => 0, g'⟩ (fun r => ∀ c : Dev Cert.GradRefIdeal.nD,
          r.2.mem ((c.tc : Thread Cert.GradRefIdeal.nD Cert.GradRefIdeal.τ).loc Cert.GradRefIdeal.main_v0) = v0 c
          ∧ r.2.mem ((c.tc : Thread Cert.GradRefIdeal.nD Cert.GradRefIdeal.τ).loc Cert.GradRefIdeal.main_arg0) = m' ((c.tc : Thread Cert.GradRefIdeal.nD Cert.GradRefIdeal.τ).loc Cert.GradRefIdeal.main_arg0)
          ∧ r.2.mem ((c.tc : Thread Cert.GradRefIdeal.nD Cert.GradRefIdeal.τ).loc Cert.GradRefIdeal.main_arg1) = m' ((c.tc : Thread Cert.GradRefIdeal.nD Cert.GradRefIdeal.τ).loc Cert.GradRefIdeal.main_arg1)
          ∧ r.2.mem ((c.tc : Thread Cert.GradRefIdeal.nD Cert.GradRefIdeal.τ).loc Cert.GradRefIdeal.main_arg2) = m' ((c.tc : Thread Cert.GradRefIdeal.nD Cert.GradRefIdeal.τ).loc Cert.GradRefIdeal.main_arg2)
          ∧ r.2.mem ((c.tc : Thread Cert.GradRefIdeal.nD Cert.GradRefIdeal.τ).loc Cert.GradRefIdeal.main_arg3) = m' ((c.tc : Thread Cert.GradRefIdeal.nD Cert.GradRefIdeal.τ).loc Cert.GradRefIdeal.main_arg3)
          ∧ r.2.mem ((c.tc : Thread Cert.GradRefIdeal.nD Cert.GradRefIdeal.τ).loc Cert.GradRefIdeal.main_arg4) = m' ((c.tc : Thread Cert.GradRefIdeal.nD Cert.GradRefIdeal.τ).loc Cert.GradRefIdeal.main_arg4))

def Claim : Prop :=
  ∃ (hLogits : Cert.Logits.Facts) (hLogitsIdeal : Cert.LogitsIdeal.Facts) (hLogitsRefIdeal : Cert.LogitsRefIdeal.Facts) (hDz : Cert.Dz.Facts) (hDzIdeal : Cert.DzIdeal.Facts) (hDzRefIdeal : Cert.DzRefIdeal.Facts) (hDw : Cert.Dw.Facts) (hDwIdeal : Cert.DwIdeal.Facts) (hDwRefIdeal : Cert.DwRefIdeal.Facts) (hGrad : Cert.Grad.Facts) (hGradIdeal : Cert.GradIdeal.Facts) (hGradRefIdeal : Cert.GradRefIdeal.Facts),
    quiescent_Logits (hLogits := hLogits)
    ∧ quiescent_LogitsIdeal (hLogitsIdeal := hLogitsIdeal)
    ∧ quiescent_LogitsRefIdeal (hLogitsRefIdeal := hLogitsRefIdeal)
    ∧ quiescent_Dz (hDz := hDz)
    ∧ quiescent_DzIdeal (hDzIdeal := hDzIdeal)
    ∧ quiescent_DzRefIdeal (hDzRefIdeal := hDzRefIdeal)
    ∧ quiescent_Dw (hDw := hDw)
    ∧ quiescent_DwIdeal (hDwIdeal := hDwIdeal)
    ∧ quiescent_DwRefIdeal (hDwRefIdeal := hDwRefIdeal)
    ∧ quiescent_Grad (hGrad := hGrad)
    ∧ quiescent_GradIdeal (hGradIdeal := hGradIdeal)
    ∧ quiescent_GradRefIdeal (hGradRefIdeal := hGradRefIdeal)
    ∧ preserves_Logits_LogitsIdeal
    ∧ algebraic_LogitsIdeal_LogitsRefIdeal (hLogitsIdeal := hLogitsIdeal) (hLogitsRefIdeal := hLogitsRefIdeal)
    ∧ preserves_Dz_DzIdeal
    ∧ algebraic_DzIdeal_DzRefIdeal (hDzIdeal := hDzIdeal) (hDzRefIdeal := hDzRefIdeal)
    ∧ preserves_Dw_DwIdeal
    ∧ algebraic_DwIdeal_DwRefIdeal (hDwIdeal := hDwIdeal) (hDwRefIdeal := hDwRefIdeal)
    ∧ preserves_Grad_GradIdeal
    ∧ algebraic_GradIdeal_GradRefIdeal (hGradIdeal := hGradIdeal) (hGradRefIdeal := hGradRefIdeal)
-- ==== Logits.lean ====
abbrev S15360x4096 : Shape := ⟨2, ![15360, 4096]⟩
abbrev S15360x1 : Shape := ⟨2, ![15360, 1]⟩
abbrev S4096x32000 : Shape := ⟨2, ![4096, 32000]⟩
abbrev S1x32000 : Shape := ⟨2, ![1, 32000]⟩
abbrev S15360x32000 : Shape := ⟨2, ![15360, 32000]⟩
abbrev S15360x128 : Shape := ⟨2, ![15360, 128]⟩
abbrev S1024x4096 : Shape := ⟨2, ![1024, 4096]⟩
abbrev S1024x1 : Shape := ⟨2, ![1024, 1]⟩
abbrev S4096x1280 : Shape := ⟨2, ![4096, 1280]⟩
abbrev S1x1280 : Shape := ⟨2, ![1, 1280]⟩
abbrev S1024x1280 : Shape := ⟨2, ![1024, 1280]⟩
abbrev S1024x128 : Shape := ⟨2, ![1024, 128]⟩
abbrev S64x128 : Shape := ⟨2, ![64, 128]⟩
abbrev S8x128 : Shape := ⟨2, ![8, 128]⟩
abbrev S1x128 : Shape := ⟨2, ![1, 128]⟩
abbrev S256x4096 : Shape := ⟨2, ![256, 4096]⟩
abbrev S256x1280 : Shape := ⟨2, ![256, 1280]⟩
abbrev S64x1 : Shape := ⟨2, ![64, 1]⟩
abbrev S64 : Shape := ⟨1, ![64]⟩

abbrev nBuf : Space → Nat
  | .hbm => 8
  | .vmem => 21
  | .smem => 0
  | _ => 0

abbrev bufTy : (tb : Table) → Fin (tcTables nBuf tb) → BufTy
  | .hbm, ⟨0, _⟩ => ⟨S15360x4096, .fp8e4m3⟩
  | .hbm, ⟨1, _⟩ => ⟨S15360x1, .f32⟩
  | .hbm, ⟨2, _⟩ => ⟨S15360x1, .i32⟩
  | .hbm, ⟨3, _⟩ => ⟨S15360x1, .f32⟩
  | .hbm, ⟨4, _⟩ => ⟨S4096x32000, .fp8e4m3⟩
  | .hbm, ⟨5, _⟩ => ⟨S1x32000, .f32⟩
  | .hbm, ⟨6, _⟩ => ⟨S15360x32000, .f32⟩
  | .hbm, ⟨7, _⟩ => ⟨S15360x128, .f32⟩
  | .local _ .vmem, ⟨0, _⟩ => ⟨S1024x4096, .fp8e4m3⟩
  | .local _ .vmem, ⟨1, _⟩ => ⟨S1024x4096, .fp8e4m3⟩
  | .local _ .vmem, ⟨2, _⟩ => ⟨S1024x1, .f32⟩
  | .local _ .vmem, ⟨3, _⟩ => ⟨S1024x1, .f32⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S4096x1280, .fp8e4m3⟩
  | .local _ .vmem, ⟨9, _⟩ => ⟨S4096x1280, .fp8e4m3⟩
  | .local _ .vmem, ⟨10, _⟩ => ⟨S1x1280, .f32⟩
  | .local _ .vmem, ⟨11, _⟩ => ⟨S1x1280, .f32⟩
  | .local _ .vmem, ⟨12, _⟩ => ⟨S1024x1280, .f32⟩
  | .local _ .vmem, ⟨13, _⟩ => ⟨S1024x1280, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | _, _ => ⟨S15360x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![15, 25], ![false, false]⟩

def k0_cond2 (i : grid0.Coords) : BitVec 1 :=
  let arg1 : BitVec 32 := BitVec.ofNat 32 (i 1).val
  let c24_i32 : BitVec 32 := 24#32
  let v4923 : BitVec 1 := Scalar.cmpi .eq arg1 c24_i32
  let v4924 : BitVec 32 := Scalar.extui v4923
  let c0_i32_1812 : BitVec 32 := 0#32
  let v4925 : BitVec 1 := Scalar.cmpi .ne v4924 c0_i32_1812
  v4925

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x1280 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== LogitsRefIdeal.lean ====
abbrev S15360x4096 : Shape := ⟨2, ![15360, 4096]⟩
abbrev S15360x1 : Shape := ⟨2, ![15360, 1]⟩
abbrev S4096x32000 : Shape := ⟨2, ![4096, 32000]⟩
abbrev S1x32000 : Shape := ⟨2, ![1, 32000]⟩
abbrev S15360x32000 : Shape := ⟨2, ![15360, 32000]⟩

abbrev nBuf : Space → Nat
  | .hbm => 7
  | .vmem => 5
  | .smem => 0
  | _ => 0

abbrev bufTy : (tb : Table) → Fin (tcTables nBuf tb) → BufTy
  | .hbm, ⟨0, _⟩ => ⟨S15360x4096, .fp8e4m3⟩
  | .hbm, ⟨1, _⟩ => ⟨S15360x1, .f32⟩
  | .hbm, ⟨2, _⟩ => ⟨S15360x1, .i32⟩
  | .hbm, ⟨3, _⟩ => ⟨S15360x1, .f32⟩
  | .hbm, ⟨4, _⟩ => ⟨S4096x32000, .fp8e4m3⟩
  | .hbm, ⟨5, _⟩ => ⟨S1x32000, .f32⟩
  | .hbm, ⟨6, _⟩ => ⟨S15360x32000, .f32⟩
  | .local _ .vmem, ⟨0, _⟩ => ⟨S15360x4096, .fp8e4m3⟩
  | .local _ .vmem, ⟨1, _⟩ => ⟨S15360x1, .f32⟩
  | .local _ .vmem, ⟨2, _⟩ => ⟨S4096x32000, .fp8e4m3⟩
  | .local _ .vmem, ⟨3, _⟩ => ⟨S1x32000, .f32⟩
  | .local _ .vmem, ⟨4, _⟩ => ⟨S15360x32000, .f32⟩
  | _, _ => ⟨S15360x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S15360x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x32000 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S15360x32000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Dz.lean ====
abbrev S5x3072x4096 : Shape := ⟨3, ![5, 3072, 4096]⟩
abbrev S3072x4096 : Shape := ⟨2, ![3072, 4096]⟩
abbrev S5x64x4096 : Shape := ⟨3, ![5, 64, 4096]⟩
abbrev S64x4096 : Shape := ⟨2, ![64, 4096]⟩
abbrev S1x16x512 : Shape := ⟨3, ![1, 16, 512]⟩
abbrev S16x512 : Shape := ⟨2, ![16, 512]⟩

abbrev nBuf : Space → Nat
  | .hbm => 4
  | .vmem => 8
  | .smem => 0
  | _ => 0

abbrev bufTy : (tb : Table) → Fin (tcTables nBuf tb) → BufTy
  | .hbm, ⟨0, _⟩ => ⟨S5x3072x4096, .f32⟩
  | .hbm, ⟨1, _⟩ => ⟨S5x3072x4096, .f32⟩
  | .hbm, ⟨2, _⟩ => ⟨S5x3072x4096, .bf16⟩
  | .hbm, ⟨3, _⟩ => ⟨S3072x4096, .f32⟩
  | .local _ .vmem, ⟨0, _⟩ => ⟨S5x64x4096, .f32⟩
  | .local _ .vmem, ⟨1, _⟩ => ⟨S5x64x4096, .f32⟩
  | .local _ .vmem, ⟨2, _⟩ => ⟨S5x64x4096, .f32⟩
  | .local _ .vmem, ⟨3, _⟩ => ⟨S5x64x4096, .f32⟩
  | .local _ .vmem, ⟨4, _⟩ => ⟨S5x64x4096, .bf16⟩
  | .local _ .vmem, ⟨5, _⟩ => ⟨S5x64x4096, .bf16⟩
  | .local _ .vmem, ⟨6, _⟩ => ⟨S64x4096, .f32⟩
  | .local _ .vmem, ⟨7, _⟩ => ⟨S64x4096, .f32⟩
  | _, _ => ⟨S5x3072x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DzRefIdeal.lean ====
abbrev S5x3072x4096 : Shape := ⟨3, ![5, 3072, 4096]⟩
abbrev S_ : Shape := ⟨0, ![]⟩
abbrev S3072x4096 : Shape := ⟨2, ![3072, 4096]⟩

abbrev nBuf : Space → Nat
  | .hbm => 22
  | .vmem => 0
  | .smem => 0
  | _ => 0

abbrev bufTy : (tb : Table) → Fin (tcTables nBuf tb) → BufTy
  | .hbm, ⟨0, _⟩ => ⟨S5x3072x4096, .f32⟩
  | .hbm, ⟨1, _⟩ => ⟨S5x3072x4096, .f32⟩
  | .hbm, ⟨2, _⟩ => ⟨S5x3072x4096, .f32⟩
  | .hbm, ⟨3, _⟩ => ⟨S5x3072x4096, .f32⟩
  | .hbm, ⟨4, _⟩ => ⟨S_, .f32⟩
  | .hbm, ⟨5, _⟩ => ⟨S5x3072x4096, .f32⟩
  | .hbm, ⟨6, _⟩ => ⟨S5x3072x4096, .f32⟩
  | .hbm, ⟨7, _⟩ => ⟨S_, .f32⟩
  | .hbm, ⟨8, _⟩ => ⟨S5x3072x4096, .f32⟩
  | .hbm, ⟨9, _⟩ => ⟨S5x3072x4096, .f32⟩
  | .hbm, ⟨10, _⟩ => ⟨S_, .f32⟩
  | .hbm, ⟨11, _⟩ => ⟨S5x3072x4096, .f32⟩
  | .hbm, ⟨12, _⟩ => ⟨S5x3072x4096, .f32⟩
  | .hbm, ⟨13, _⟩ => ⟨S5x3072x4096, .f32⟩
  | .hbm, ⟨14, _⟩ => ⟨S_, .f32⟩
  | .hbm, ⟨15, _⟩ => ⟨S5x3072x4096, .f32⟩
  | .hbm, ⟨16, _⟩ => ⟨S5x3072x4096, .f32⟩
  | .hbm, ⟨17, _⟩ => ⟨S5x3072x4096, .f32⟩
  | .hbm, ⟨18, _⟩ => ⟨S5x3072x4096, .f32⟩
  | .hbm, ⟨19, _⟩ => ⟨S5x3072x4096, .bf16⟩
  | .hbm, ⟨20, _⟩ => ⟨S_, .f32⟩
  | .hbm, ⟨21, _⟩ => ⟨S3072x4096, .f32⟩
  | _, _ => ⟨S5x3072x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Dw.lean ====
abbrev S4096x3072 : Shape := ⟨2, ![4096, 3072]⟩
abbrev S5x3072x4096 : Shape := ⟨3, ![5, 3072, 4096]⟩
abbrev S5x4096x4096 : Shape := ⟨3, ![5, 4096, 4096]⟩
abbrev S5x1x4096 : Shape := ⟨3, ![5, 1, 4096]⟩
abbrev S1x3072x256 : Shape := ⟨3, ![1, 3072, 256]⟩
abbrev S1x4096x256 : Shape := ⟨3, ![1, 4096, 256]⟩
abbrev S1x1x256 : Shape := ⟨3, ![1, 1, 256]⟩
abbrev S3072x256 : Shape := ⟨2, ![3072, 256]⟩
abbrev S4096x256 : Shape := ⟨2, ![4096, 256]⟩
abbrev S256 : Shape := ⟨1, ![256]⟩
abbrev S1x256 : Shape := ⟨2, ![1, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S5x3072x4096, .bf16⟩
  | .hbm, ⟨2, _⟩ => ⟨S5x4096x4096, .f32⟩
  | .hbm, ⟨3, _⟩ => ⟨S5x1x4096, .f32⟩
  | .local _ .vmem, ⟨0, _⟩ => ⟨S4096x3072, .bf16⟩
  | .local _ .vmem, ⟨1, _⟩ => ⟨S1x3072x256, .bf16⟩
  | .local _ .vmem, ⟨2, _⟩ => ⟨S1x3072x256, .bf16⟩
  | .local _ .vmem, ⟨3, _⟩ => ⟨S1x4096x256, .f32⟩
  | .local _ .vmem, ⟨4, _⟩ => ⟨S1x4096x256, .f32⟩
  | .local _ .vmem, ⟨5, _⟩ => ⟨S1x1x256, .f32⟩
  | .local _ .vmem, ⟨6, _⟩ => ⟨S1x1x256, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![5, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4096x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x3072x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DwRefIdeal.lean ====
abbrev S4096x3072 : Shape := ⟨2, ![4096, 3072]⟩
abbrev S5x3072x4096 : Shape := ⟨3, ![5, 3072, 4096]⟩
abbrev S5x4096x4096 : Shape := ⟨3, ![5, 4096, 4096]⟩
abbrev S_ : Shape := ⟨0, ![]⟩
abbrev S5x4096 : Shape := ⟨2, ![5, 4096]⟩
abbrev S5x1x4096 : Shape := ⟨3, ![5, 1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S5x3072x4096, .bf16⟩
  | .hbm, ⟨2, _⟩ => ⟨S5x4096x4096, .f32⟩
  | .hbm, ⟨3, _⟩ => ⟨S5x4096x4096, .f32⟩
  | .hbm, ⟨4, _⟩ => ⟨S5x3072x4096, .f32⟩
  | .hbm, ⟨5, _⟩ => ⟨S_, .f32⟩
  | .hbm, ⟨6, _⟩ => ⟨S5x4096, .f32⟩
  | .hbm, ⟨7, _⟩ => ⟨S5x1x4096, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Grad.lean ====
abbrev S15360x32000 : Shape := ⟨2, ![15360, 32000]⟩
abbrev S15360x128 : Shape := ⟨2, ![15360, 128]⟩
abbrev S15360x1 : Shape := ⟨2, ![15360, 1]⟩
abbrev S4096x32000 : Shape := ⟨2, ![4096, 32000]⟩
abbrev S1x32000 : Shape := ⟨2, ![1, 32000]⟩
abbrev S15360x4096 : Shape := ⟨2, ![15360, 4096]⟩
abbrev S128x6400 : Shape := ⟨2, ![128, 6400]⟩
abbrev S128x128 : Shape := ⟨2, ![128, 128]⟩
abbrev S128x1 : Shape := ⟨2, ![128, 1]⟩
abbrev S1x6400 : Shape := ⟨2, ![1, 6400]⟩
abbrev S1024x6400 : Shape := ⟨2, ![1024, 6400]⟩
abbrev S512x4096 : Shape := ⟨2, ![512, 4096]⟩
abbrev S512x6400 : Shape := ⟨2, ![512, 6400]⟩
abbrev S32x128 : Shape := ⟨2, ![32, 128]⟩
abbrev S32x1 : Shape := ⟨2, ![32, 1]⟩
abbrev S1x128 : Shape := ⟨2, ![1, 128]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S15360x32000, .f32⟩
  | .hbm, ⟨1, _⟩ => ⟨S15360x128, .f32⟩
  | .hbm, ⟨2, _⟩ => ⟨S15360x1, .i32⟩
  | .hbm, ⟨3, _⟩ => ⟨S4096x32000, .fp8e4m3⟩
  | .hbm, ⟨4, _⟩ => ⟨S1x32000, .f32⟩
  | .hbm, ⟨5, _⟩ => ⟨S1x32000, .bf16⟩
  | .hbm, ⟨6, _⟩ => ⟨S15360x4096, .f32⟩
  | .local _ .vmem, ⟨0, _⟩ => ⟨S128x6400, .f32⟩
  | .local _ .vmem, ⟨1, _⟩ => ⟨S128x6400, .f32⟩
  | .local _ .vmem, ⟨2, _⟩ => ⟨S128x128, .f32⟩
  | .local _ .vmem, ⟨3, _⟩ => ⟨S128x128, .f32⟩
  | .local _ .vmem, ⟨4, _⟩ => ⟨S128x1, .i32⟩
  | .local _ .vmem, ⟨5, _⟩ => ⟨S128x1, .i32⟩
  | .local _ .vmem, ⟨6, _⟩ => ⟨S1x6400, .bf16⟩
  | .local _ .vmem, ⟨7, _⟩ => ⟨S1x6400, .bf16⟩
  | .local _ .vmem, ⟨8, _⟩ => ⟨S1024x6400, .fp8e4m3⟩
  | .local _ .vmem, ⟨9, _⟩ => ⟨S1024x6400, .fp8e4m3⟩
  | .local _ .vmem, ⟨10, _⟩ => ⟨S512x4096, .f32⟩
  | .local _ .vmem, ⟨11, _⟩ => ⟨S512x4096, .f32⟩
  | .local _ .vmem, ⟨12, _⟩ => ⟨S512x6400, .bf16⟩
  | .local _ .vmem, ⟨13, _⟩ => ⟨S512x6400, .bf16⟩
  | _, _ => ⟨S15360x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![151, 4], ![false, false]⟩

def k0_mult1 (i : grid0.Coords) : BitVec 32 :=
  let arg1 : BitVec 32 := BitVec.ofNat 32 (i 1).val
  let c1024_i32 : BitVec 32 := 1024#32
  let v4 : BitVec 32 := Scalar.muli arg1 c1024_i32
  v4
def k0_mult2 (i : grid0.Coords) : BitVec 32 :=
  let arg1 : BitVec 32 := BitVec.ofNat 32 (i 1).val
  let c128_i32 : BitVec 32 := 128#32
  let v6 : BitVec 32 := Scalar.muli arg1 c128_i32
  v6
def k0_cond1 (i : grid0.Coords) : BitVec 1 :=
  let arg0 : BitVec 32 := BitVec.ofNat 32 (i 0).val
  let c2_i32 : BitVec 32 := 2#32
  let v8 : BitVec 32 := Scalar.remsi arg0 c2_i32
  let c0_i32 : BitVec 32 := 0#32
  let v9 : BitVec 1 := Scalar.cmpi .eq v8 c0_i32
  let v10 : BitVec 32 := Scalar.extui v9
  let c0_i32_2 : BitVec 32 := 0#32
  let v11 : BitVec 1 := Scalar.cmpi .ne v10 c0_i32_2
  v11

def k0_off1 (i : grid0.Coords) (c0_i32_18 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v70 : BitVec 32 := Scalar.addi v7 c0_i32_18
  let v71 : Index := Scalar.indexCast v70
  let c0_19 : Index := 0#32
  ![v71.toNat, 0]
def k0_off2 (i : grid0.Coords) (c0_i32_28 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v105 : BitVec 32 := Scalar.addi v7 c0_i32_28
  let v106 : Index := Scalar.indexCast v105
  let c128_29 : Index := 128#32
  ![v106.toNat, 128]
def k0_off3 (i : grid0.Coords) (c0_i32_37 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v140 : BitVec 32 := Scalar.addi v7 c0_i32_37
  let v141 : Index := Scalar.indexCast v140
  let c256_38 : Index := 256#32
  ![v141.toNat, 256]
def k0_off4 (i : grid0.Coords) (c0_i32_46 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v175 : BitVec 32 := Scalar.addi v7 c0_i32_46
  let v176 : Index := Scalar.indexCast v175
  let c384_47 : Index := 384#32
  ![v176.toNat, 384]
def k0_off5 (i : grid0.Coords) (c0_i32_55 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v210 : BitVec 32 := Scalar.addi v7 c0_i32_55
  let v211 : Index := Scalar.indexCast v210
  let c512_56 : Index := 512#32
  ![v211.toNat, 512]
def k0_off6 (i : grid0.Coords) (c0_i32_64 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v245 : BitVec 32 := Scalar.addi v7 c0_i32_64
  let v246 : Index := Scalar.indexCast v245
  let c640_65 : Index := 640#32
  ![v246.toNat, 640]
def k0_off7 (i : grid0.Coords) (c0_i32_73 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v280 : BitVec 32 := Scalar.addi v7 c0_i32_73
  let v281 : Index := Scalar.indexCast v280
  let c768_74 : Index := 768#32
  ![v281.toNat, 768]
def k0_off8 (i : grid0.Coords) (c0_i32_82 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v315 : BitVec 32 := Scalar.addi v7 c0_i32_82
  let v316 : Index := Scalar.indexCast v315
  let c896_83 : Index := 896#32
  ![v316.toNat, 896]
def k0_off9 (i : grid0.Coords) (c0_i32_92 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v350 : BitVec 32 := Scalar.addi v7 c0_i32_92
  let v351 : Index := Scalar.indexCast v350
  let c1024_93 : Index := 1024#32
  ![v351.toNat, 1024]
def k0_off10 (i : grid0.Coords) (c0_i32_101 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v385 : BitVec 32 := Scalar.addi v7 c0_i32_101
  let v386 : Index := Scalar.indexCast v385
  let c1152_102 : Index := 1152#32
  ![v386.toNat, 1152]
def k0_off11 (i : grid0.Coords) (c0_i32_110 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v420 : BitVec 32 := Scalar.addi v7 c0_i32_110
  let v421 : Index := Scalar.indexCast v420
  let c1280_111 : Index := 1280#32
  ![v421.toNat, 1280]
def k0_off12 (i : grid0.Coords) (c0_i32_119 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v455 : BitVec 32 := Scalar.addi v7 c0_i32_119
  let v456 : Index := Scalar.indexCast v455
  let c1408_120 : Index := 1408#32
  ![v456.toNat, 1408]
def k0_off13 (i : grid0.Coords) (c0_i32_128 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v499 : BitVec 32 := Scalar.addi v7 c0_i32_128
  let v500 : Index := Scalar.indexCast v499
  let c1536_129 : Index := 1536#32
  ![v500.toNat, 1536]
def k0_off14 (i : grid0.Coords) (c0_i32_137 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v534 : BitVec 32 := Scalar.addi v7 c0_i32_137
  let v535 : Index := Scalar.indexCast v534
  let c1664_138 : Index := 1664#32
  ![v535.toNat, 1664]
def k0_off15 (i : grid0.Coords) (c0_i32_146 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v569 : BitVec 32 := Scalar.addi v7 c0_i32_146
  let v570 : Index := Scalar.indexCast v569
  let c1792_147 : Index := 1792#32
  ![v570.toNat, 1792]
def k0_off16 (i : grid0.Coords) (c0_i32_155 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v604 : BitVec 32 := Scalar.addi v7 c0_i32_155
  let v605 : Index := Scalar.indexCast v604
  let c1920_156 : Index := 1920#32
  ![v605.toNat, 1920]
def k0_off17 (i : grid0.Coords) (c0_i32_164 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v639 : BitVec 32 := Scalar.addi v7 c0_i32_164
  let v640 : Index := Scalar.indexCast v639
  let c2048_165 : Index := 2048#32
  ![v640.toNat, 2048]
def k0_off18 (i : grid0.Coords) (c0_i32_173 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v674 : BitVec 32 := Scalar.addi v7 c0_i32_173
  let v675 : Index := Scalar.indexCast v674
  let c2176_174 : Index := 2176#32
  ![v675.toNat, 2176]
def k0_off19 (i : grid0.Coords) (c0_i32_182 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v709 : BitVec 32 := Scalar.addi v7 c0_i32_182
  let v710 : Index := Scalar.indexCast v709
  let c2304_183 : Index := 2304#32
  ![v710.toNat, 2304]
def k0_off20 (i : grid0.Coords) (c0_i32_191 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v744 : BitVec 32 := Scalar.addi v7 c0_i32_191
  let v745 : Index := Scalar.indexCast v744
  let c2432_192 : Index := 2432#32
  ![v745.toNat, 2432]
def k0_off21 (i : grid0.Coords) (c0_i32_200 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v779 : BitVec 32 := Scalar.addi v7 c0_i32_200
  let v780 : Index := Scalar.indexCast v779
  let c2560_201 : Index := 2560#32
  ![v780.toNat, 2560]
def k0_off22 (i : grid0.Coords) (c0_i32_209 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v814 : BitVec 32 := Scalar.addi v7 c0_i32_209
  let v815 : Index := Scalar.indexCast v814
  let c2688_210 : Index := 2688#32
  ![v815.toNat, 2688]
def k0_off23 (i : grid0.Coords) (c0_i32_218 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v849 : BitVec 32 := Scalar.addi v7 c0_i32_218
  let v850 : Index := Scalar.indexCast v849
  let c2816_219 : Index := 2816#32
  ![v850.toNat, 2816]
def k0_off24 (i : grid0.Coords) (c0_i32_227 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v884 : BitVec 32 := Scalar.addi v7 c0_i32_227
  let v885 : Index := Scalar.indexCast v884
  let c2944_228 : Index := 2944#32
  ![v885.toNat, 2944]
def k0_off25 (i : grid0.Coords) (c0_i32_236 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v919 : BitVec 32 := Scalar.addi v7 c0_i32_236
  let v920 : Index := Scalar.indexCast v919
  let c3072_237 : Index := 3072#32
  ![v920.toNat, 3072]
def k0_off26 (i : grid0.Coords) (c0_i32_245 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v954 : BitVec 32 := Scalar.addi v7 c0_i32_245
  let v955 : Index := Scalar.indexCast v954
  let c3200_246 : Index := 3200#32
  ![v955.toNat, 3200]
def k0_off27 (i : grid0.Coords) (c0_i32_254 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v989 : BitVec 32 := Scalar.addi v7 c0_i32_254
  let v990 : Index := Scalar.indexCast v989
  let c3328_255 : Index := 3328#32
  ![v990.toNat, 3328]
def k0_off28 (i : grid0.Coords) (c0_i32_263 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1024 : BitVec 32 := Scalar.addi v7 c0_i32_263
  let v1025 : Index := Scalar.indexCast v1024
  let c3456_264 : Index := 3456#32
  ![v1025.toNat, 3456]
def k0_off29 (i : grid0.Coords) (c0_i32_272 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1059 : BitVec 32 := Scalar.addi v7 c0_i32_272
  let v1060 : Index := Scalar.indexCast v1059
  let c3584_273 : Index := 3584#32
  ![v1060.toNat, 3584]
def k0_off30 (i : grid0.Coords) (c0_i32_281 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1094 : BitVec 32 := Scalar.addi v7 c0_i32_281
  let v1095 : Index := Scalar.indexCast v1094
  let c3712_282 : Index := 3712#32
  ![v1095.toNat, 3712]
def k0_off31 (i : grid0.Coords) (c0_i32_290 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1129 : BitVec 32 := Scalar.addi v7 c0_i32_290
  let v1130 : Index := Scalar.indexCast v1129
  let c3840_291 : Index := 3840#32
  ![v1130.toNat, 3840]
def k0_off32 (i : grid0.Coords) (c0_i32_299 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1164 : BitVec 32 := Scalar.addi v7 c0_i32_299
  let v1165 : Index := Scalar.indexCast v1164
  let c3968_300 : Index := 3968#32
  ![v1165.toNat, 3968]
def k0_off33 (i : grid0.Coords) (c0_i32_308 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1199 : BitVec 32 := Scalar.addi v7 c0_i32_308
  let v1200 : Index := Scalar.indexCast v1199
  let c4096_309 : Index := 4096#32
  ![v1200.toNat, 4096]
def k0_off34 (i : grid0.Coords) (c0_i32_317 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1234 : BitVec 32 := Scalar.addi v7 c0_i32_317
  let v1235 : Index := Scalar.indexCast v1234
  let c4224_318 : Index := 4224#32
  ![v1235.toNat, 4224]
def k0_off35 (i : grid0.Coords) (c0_i32_326 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1269 : BitVec 32 := Scalar.addi v7 c0_i32_326
  let v1270 : Index := Scalar.indexCast v1269
  let c4352_327 : Index := 4352#32
  ![v1270.toNat, 4352]
def k0_off36 (i : grid0.Coords) (c0_i32_335 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1304 : BitVec 32 := Scalar.addi v7 c0_i32_335
  let v1305 : Index := Scalar.indexCast v1304
  let c4480_336 : Index := 4480#32
  ![v1305.toNat, 4480]
def k0_off37 (i : grid0.Coords) (c0_i32_344 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1339 : BitVec 32 := Scalar.addi v7 c0_i32_344
  let v1340 : Index := Scalar.indexCast v1339
  let c4608_345 : Index := 4608#32
  ![v1340.toNat, 4608]
def k0_off38 (i : grid0.Coords) (c0_i32_354 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1383 : BitVec 32 := Scalar.addi v7 c0_i32_354
  let v1384 : Index := Scalar.indexCast v1383
  let c4736_355 : Index := 4736#32
  ![v1384.toNat, 4736]
def k0_off39 (i : grid0.Coords) (c0_i32_363 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1418 : BitVec 32 := Scalar.addi v7 c0_i32_363
  let v1419 : Index := Scalar.indexCast v1418
  let c4864_364 : Index := 4864#32
  ![v1419.toNat, 4864]
def k0_off40 (i : grid0.Coords) (c0_i32_372 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1453 : BitVec 32 := Scalar.addi v7 c0_i32_372
  let v1454 : Index := Scalar.indexCast v1453
  let c4992_373 : Index := 4992#32
  ![v1454.toNat, 4992]
def k0_off41 (i : grid0.Coords) (c0_i32_381 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1488 : BitVec 32 := Scalar.addi v7 c0_i32_381
  let v1489 : Index := Scalar.indexCast v1488
  let c5120_382 : Index := 5120#32
  ![v1489.toNat, 5120]
def k0_off42 (i : grid0.Coords) (c0_i32_390 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1523 : BitVec 32 := Scalar.addi v7 c0_i32_390
  let v1524 : Index := Scalar.indexCast v1523
  let c5248_391 : Index := 5248#32
  ![v1524.toNat, 5248]
def k0_off43 (i : grid0.Coords) (c0_i32_399 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1558 : BitVec 32 := Scalar.addi v7 c0_i32_399
  let v1559 : Index := Scalar.indexCast v1558
  let c5376_400 : Index := 5376#32
  ![v1559.toNat, 5376]
def k0_off44 (i : grid0.Coords) (c0_i32_408 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1593 : BitVec 32 := Scalar.addi v7 c0_i32_408
  let v1594 : Index := Scalar.indexCast v1593
  let c5504_409 : Index := 5504#32
  ![v1594.toNat, 5504]
def k0_off45 (i : grid0.Coords) (c0_i32_417 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1628 : BitVec 32 := Scalar.addi v7 c0_i32_417
  let v1629 : Index := Scalar.indexCast v1628
  let c5632_418 : Index := 5632#32
  ![v1629.toNat, 5632]
def k0_off46 (i : grid0.Coords) (c0_i32_426 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1663 : BitVec 32 := Scalar.addi v7 c0_i32_426
  let v1664 : Index := Scalar.indexCast v1663
  let c5760_427 : Index := 5760#32
  ![v1664.toNat, 5760]
def k0_off47 (i : grid0.Coords) (c0_i32_435 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1698 : BitVec 32 := Scalar.addi v7 c0_i32_435
  let v1699 : Index := Scalar.indexCast v1698
  let c5888_436 : Index := 5888#32
  ![v1699.toNat, 5888]
def k0_off48 (i : grid0.Coords) (c0_i32_444 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1733 : BitVec 32 := Scalar.addi v7 c0_i32_444
  let v1734 : Index := Scalar.indexCast v1733
  let c6016_445 : Index := 6016#32
  ![v1734.toNat, 6016]
def k0_off49 (i : grid0.Coords) (c0_i32_453 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1768 : BitVec 32 := Scalar.addi v7 c0_i32_453
  let v1769 : Index := Scalar.indexCast v1768
  let c6144_454 : Index := 6144#32
  ![v1769.toNat, 6144]
def k0_off50 (i : grid0.Coords) (c0_i32_462 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1803 : BitVec 32 := Scalar.addi v7 c0_i32_462
  let v1804 : Index := Scalar.indexCast v1803
  let c6272_463 : Index := 6272#32
  ![v1804.toNat, 6272]
def k0_off51 (i : grid0.Coords) : Fin 2 → Nat :=
  let c0_2142 : Index := 0#32
  let arg1 : BitVec 32 := BitVec.ofNat 32 (i 1).val
  let c1024_i32 : BitVec 32 := 1024#32
  let v4 : BitVec 32 := Scalar.muli arg1 c1024_i32
  let v5 : BitVec 32 := v4
  let v7185 : Index := Scalar.indexCast v5
  ![0, v7185.toNat]
def k0_cond2 (i : grid0.Coords) : BitVec 1 :=
  let arg0 : BitVec 32 := BitVec.ofNat 32 (i 0).val
  let c2_i32_3 : BitVec 32 := 2#32
  let v12 : BitVec 32 := Scalar.remsi arg0 c2_i32_3
  let c1_i32_4 : BitVec 32 := 1#32
  let v13 : BitVec 1 := Scalar.cmpi .eq v12 c1_i32_4
  let v14 : BitVec 32 := Scalar.extui v13
  let c0_i32_5 : BitVec 32 := 0#32
  let v15 : BitVec 1 := Scalar.cmpi .ne v14 c0_i32_5
  v15

def k0_off52 (i : grid0.Coords) (c0_i32_18 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v70 : BitVec 32 := Scalar.addi v7 c0_i32_18
  let v71 : Index := Scalar.indexCast v70
  let c0_19 : Index := 0#32
  ![v71.toNat, 0]
def k0_off53 (i : grid0.Coords) (c0_i32_28 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v105 : BitVec 32 := Scalar.addi v7 c0_i32_28
  let v106 : Index := Scalar.indexCast v105
  let c128_29 : Index := 128#32
  ![v106.toNat, 128]
def k0_off54 (i : grid0.Coords) (c0_i32_37 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v140 : BitVec 32 := Scalar.addi v7 c0_i32_37
  let v141 : Index := Scalar.indexCast v140
  let c256_38 : Index := 256#32
  ![v141.toNat, 256]
def k0_off55 (i : grid0.Coords) (c0_i32_46 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v175 : BitVec 32 := Scalar.addi v7 c0_i32_46
  let v176 : Index := Scalar.indexCast v175
  let c384_47 : Index := 384#32
  ![v176.toNat, 384]
def k0_off56 (i : grid0.Coords) (c0_i32_55 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v210 : BitVec 32 := Scalar.addi v7 c0_i32_55
  let v211 : Index := Scalar.indexCast v210
  let c512_56 : Index := 512#32
  ![v211.toNat, 512]
def k0_off57 (i : grid0.Coords) (c0_i32_64 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v245 : BitVec 32 := Scalar.addi v7 c0_i32_64
  let v246 : Index := Scalar.indexCast v245
  let c640_65 : Index := 640#32
  ![v246.toNat, 640]
def k0_off58 (i : grid0.Coords) (c0_i32_73 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v280 : BitVec 32 := Scalar.addi v7 c0_i32_73
  let v281 : Index := Scalar.indexCast v280
  let c768_74 : Index := 768#32
  ![v281.toNat, 768]
def k0_off59 (i : grid0.Coords) (c0_i32_82 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v315 : BitVec 32 := Scalar.addi v7 c0_i32_82
  let v316 : Index := Scalar.indexCast v315
  let c896_83 : Index := 896#32
  ![v316.toNat, 896]
def k0_off60 (i : grid0.Coords) (c0_i32_92 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v350 : BitVec 32 := Scalar.addi v7 c0_i32_92
  let v351 : Index := Scalar.indexCast v350
  let c1024_93 : Index := 1024#32
  ![v351.toNat, 1024]
def k0_off61 (i : grid0.Coords) (c0_i32_101 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v385 : BitVec 32 := Scalar.addi v7 c0_i32_101
  let v386 : Index := Scalar.indexCast v385
  let c1152_102 : Index := 1152#32
  ![v386.toNat, 1152]
def k0_off62 (i : grid0.Coords) (c0_i32_110 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v420 : BitVec 32 := Scalar.addi v7 c0_i32_110
  let v421 : Index := Scalar.indexCast v420
  let c1280_111 : Index := 1280#32
  ![v421.toNat, 1280]
def k0_off63 (i : grid0.Coords) (c0_i32_119 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v455 : BitVec 32 := Scalar.addi v7 c0_i32_119
  let v456 : Index := Scalar.indexCast v455
  let c1408_120 : Index := 1408#32
  ![v456.toNat, 1408]
def k0_off64 (i : grid0.Coords) (c0_i32_128 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v499 : BitVec 32 := Scalar.addi v7 c0_i32_128
  let v500 : Index := Scalar.indexCast v499
  let c1536_129 : Index := 1536#32
  ![v500.toNat, 1536]
def k0_off65 (i : grid0.Coords) (c0_i32_137 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v534 : BitVec 32 := Scalar.addi v7 c0_i32_137
  let v535 : Index := Scalar.indexCast v534
  let c1664_138 : Index := 1664#32
  ![v535.toNat, 1664]
def k0_off66 (i : grid0.Coords) (c0_i32_146 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v569 : BitVec 32 := Scalar.addi v7 c0_i32_146
  let v570 : Index := Scalar.indexCast v569
  let c1792_147 : Index := 1792#32
  ![v570.toNat, 1792]
def k0_off67 (i : grid0.Coords) (c0_i32_155 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v604 : BitVec 32 := Scalar.addi v7 c0_i32_155
  let v605 : Index := Scalar.indexCast v604
  let c1920_156 : Index := 1920#32
  ![v605.toNat, 1920]
def k0_off68 (i : grid0.Coords) (c0_i32_164 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v639 : BitVec 32 := Scalar.addi v7 c0_i32_164
  let v640 : Index := Scalar.indexCast v639
  let c2048_165 : Index := 2048#32
  ![v640.toNat, 2048]
def k0_off69 (i : grid0.Coords) (c0_i32_173 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v674 : BitVec 32 := Scalar.addi v7 c0_i32_173
  let v675 : Index := Scalar.indexCast v674
  let c2176_174 : Index := 2176#32
  ![v675.toNat, 2176]
def k0_off70 (i : grid0.Coords) (c0_i32_182 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v709 : BitVec 32 := Scalar.addi v7 c0_i32_182
  let v710 : Index := Scalar.indexCast v709
  let c2304_183 : Index := 2304#32
  ![v710.toNat, 2304]
def k0_off71 (i : grid0.Coords) (c0_i32_191 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v744 : BitVec 32 := Scalar.addi v7 c0_i32_191
  let v745 : Index := Scalar.indexCast v744
  let c2432_192 : Index := 2432#32
  ![v745.toNat, 2432]
def k0_off72 (i : grid0.Coords) (c0_i32_200 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v779 : BitVec 32 := Scalar.addi v7 c0_i32_200
  let v780 : Index := Scalar.indexCast v779
  let c2560_201 : Index := 2560#32
  ![v780.toNat, 2560]
def k0_off73 (i : grid0.Coords) (c0_i32_209 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v814 : BitVec 32 := Scalar.addi v7 c0_i32_209
  let v815 : Index := Scalar.indexCast v814
  let c2688_210 : Index := 2688#32
  ![v815.toNat, 2688]
def k0_off74 (i : grid0.Coords) (c0_i32_218 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v849 : BitVec 32 := Scalar.addi v7 c0_i32_218
  let v850 : Index := Scalar.indexCast v849
  let c2816_219 : Index := 2816#32
  ![v850.toNat, 2816]
def k0_off75 (i : grid0.Coords) (c0_i32_227 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v884 : BitVec 32 := Scalar.addi v7 c0_i32_227
  let v885 : Index := Scalar.indexCast v884
  let c2944_228 : Index := 2944#32
  ![v885.toNat, 2944]
def k0_off76 (i : grid0.Coords) (c0_i32_236 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v919 : BitVec 32 := Scalar.addi v7 c0_i32_236
  let v920 : Index := Scalar.indexCast v919
  let c3072_237 : Index := 3072#32
  ![v920.toNat, 3072]
def k0_off77 (i : grid0.Coords) (c0_i32_245 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v954 : BitVec 32 := Scalar.addi v7 c0_i32_245
  let v955 : Index := Scalar.indexCast v954
  let c3200_246 : Index := 3200#32
  ![v955.toNat, 3200]
def k0_off78 (i : grid0.Coords) (c0_i32_254 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v989 : BitVec 32 := Scalar.addi v7 c0_i32_254
  let v990 : Index := Scalar.indexCast v989
  let c3328_255 : Index := 3328#32
  ![v990.toNat, 3328]
def k0_off79 (i : grid0.Coords) (c0_i32_263 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1024 : BitVec 32 := Scalar.addi v7 c0_i32_263
  let v1025 : Index := Scalar.indexCast v1024
  let c3456_264 : Index := 3456#32
  ![v1025.toNat, 3456]
def k0_off80 (i : grid0.Coords) (c0_i32_272 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1059 : BitVec 32 := Scalar.addi v7 c0_i32_272
  let v1060 : Index := Scalar.indexCast v1059
  let c3584_273 : Index := 3584#32
  ![v1060.toNat, 3584]
def k0_off81 (i : grid0.Coords) (c0_i32_281 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1094 : BitVec 32 := Scalar.addi v7 c0_i32_281
  let v1095 : Index := Scalar.indexCast v1094
  let c3712_282 : Index := 3712#32
  ![v1095.toNat, 3712]
def k0_off82 (i : grid0.Coords) (c0_i32_290 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1129 : BitVec 32 := Scalar.addi v7 c0_i32_290
  let v1130 : Index := Scalar.indexCast v1129
  let c3840_291 : Index := 3840#32
  ![v1130.toNat, 3840]
def k0_off83 (i : grid0.Coords) (c0_i32_299 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1164 : BitVec 32 := Scalar.addi v7 c0_i32_299
  let v1165 : Index := Scalar.indexCast v1164
  let c3968_300 : Index := 3968#32
  ![v1165.toNat, 3968]
def k0_off84 (i : grid0.Coords) (c0_i32_308 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1199 : BitVec 32 := Scalar.addi v7 c0_i32_308
  let v1200 : Index := Scalar.indexCast v1199
  let c4096_309 : Index := 4096#32
  ![v1200.toNat, 4096]
def k0_off85 (i : grid0.Coords) (c0_i32_317 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1234 : BitVec 32 := Scalar.addi v7 c0_i32_317
  let v1235 : Index := Scalar.indexCast v1234
  let c4224_318 : Index := 4224#32
  ![v1235.toNat, 4224]
def k0_off86 (i : grid0.Coords) (c0_i32_326 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1269 : BitVec 32 := Scalar.addi v7 c0_i32_326
  let v1270 : Index := Scalar.indexCast v1269
  let c4352_327 : Index := 4352#32
  ![v1270.toNat, 4352]
def k0_off87 (i : grid0.Coords) (c0_i32_335 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1304 : BitVec 32 := Scalar.addi v7 c0_i32_335
  let v1305 : Index := Scalar.indexCast v1304
  let c4480_336 : Index := 4480#32
  ![v1305.toNat, 4480]
def k0_off88 (i : grid0.Coords) (c0_i32_344 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1339 : BitVec 32 := Scalar.addi v7 c0_i32_344
  let v1340 : Index := Scalar.indexCast v1339
  let c4608_345 : Index := 4608#32
  ![v1340.toNat, 4608]
def k0_off89 (i : grid0.Coords) (c0_i32_354 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1383 : BitVec 32 := Scalar.addi v7 c0_i32_354
  let v1384 : Index := Scalar.indexCast v1383
  let c4736_355 : Index := 4736#32
  ![v1384.toNat, 4736]
def k0_off90 (i : grid0.Coords) (c0_i32_363 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1418 : BitVec 32 := Scalar.addi v7 c0_i32_363
  let v1419 : Index := Scalar.indexCast v1418
  let c4864_364 : Index := 4864#32
  ![v1419.toNat, 4864]
def k0_off91 (i : grid0.Coords) (c0_i32_372 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1453 : BitVec 32 := Scalar.addi v7 c0_i32_372
  let v1454 : Index := Scalar.indexCast v1453
  let c4992_373 : Index := 4992#32
  ![v1454.toNat, 4992]
def k0_off92 (i : grid0.Coords) (c0_i32_381 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1488 : BitVec 32 := Scalar.addi v7 c0_i32_381
  let v1489 : Index := Scalar.indexCast v1488
  let c5120_382 : Index := 5120#32
  ![v1489.toNat, 5120]
def k0_off93 (i : grid0.Coords) (c0_i32_390 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1523 : BitVec 32 := Scalar.addi v7 c0_i32_390
  let v1524 : Index := Scalar.indexCast v1523
  let c5248_391 : Index := 5248#32
  ![v1524.toNat, 5248]
def k0_off94 (i : grid0.Coords) (c0_i32_399 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1558 : BitVec 32 := Scalar.addi v7 c0_i32_399
  let v1559 : Index := Scalar.indexCast v1558
  let c5376_400 : Index := 5376#32
  ![v1559.toNat, 5376]
def k0_off95 (i : grid0.Coords) (c0_i32_408 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1593 : BitVec 32 := Scalar.addi v7 c0_i32_408
  let v1594 : Index := Scalar.indexCast v1593
  let c5504_409 : Index := 5504#32
  ![v1594.toNat, 5504]
def k0_off96 (i : grid0.Coords) (c0_i32_417 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1628 : BitVec 32 := Scalar.addi v7 c0_i32_417
  let v1629 : Index := Scalar.indexCast v1628
  let c5632_418 : Index := 5632#32
  ![v1629.toNat, 5632]
def k0_off97 (i : grid0.Coords) (c0_i32_426 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1663 : BitVec 32 := Scalar.addi v7 c0_i32_426
  let v1664 : Index := Scalar.indexCast v1663
  let c5760_427 : Index := 5760#32
  ![v1664.toNat, 5760]
def k0_off98 (i : grid0.Coords) (c0_i32_435 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1698 : BitVec 32 := Scalar.addi v7 c0_i32_435
  let v1699 : Index := Scalar.indexCast v1698
  let c5888_436 : Index := 5888#32
  ![v1699.toNat, 5888]
def k0_off99 (i : grid0.Coords) (c0_i32_444 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1733 : BitVec 32 := Scalar.addi v7 c0_i32_444
  let v1734 : Index := Scalar.indexCast v1733
  let c6016_445 : Index := 6016#32
  ![v1734.toNat, 6016]
def k0_off100 (i : grid0.Coords) (c0_i32_453 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1768 : BitVec 32 := Scalar.addi v7 c0_i32_453
  let v1769 : Index := Scalar.indexCast v1768
  let c6144_454 : Index := 6144#32
  ![v1769.toNat, 6144]
def k0_off101 (i : grid0.Coords) (c0_i32_462 : BitVec 32) : Fin 2 → Nat :=
  let arg1 : BitVec 32 := BitVec.ofNat 32 (i 1).val
  let c128_i32 : BitVec 32 := 128#32
  let v6 : BitVec 32 := Scalar.muli arg1 c128_i32
  let v7 : BitVec 32 := v6
  let v1803 : BitVec 32 := Scalar.addi v7 c0_i32_462
  let v1804 : Index := Scalar.indexCast v1803
  let c6272_463 : Index := 6272#32
  ![v1804.toNat, 6272]
def k0_off102 (i : grid0.Coords) : Fin 2 → Nat :=
  let c0_2142 : Index := 0#32
  let arg1 : BitVec 32 := BitVec.ofNat 32 (i 1).val
  let c1024_i32 : BitVec 32 := 1024#32
  let v4 : BitVec 32 := Scalar.muli arg1 c1024_i32
  let v5 : BitVec 32 := v4
  let v7185 : Index := Scalar.indexCast v5
  ![0, v7185.toNat]
def cc0_transform_0 (i : grid0.Coords) : Fin 2 → Nat :=
  let arg0 : BitVec 32 := BitVec.ofNat 32 (i 0).val
  let arg1 : BitVec 32 := BitVec.ofNat 32 (i 1).val
  let c149_i32 : BitVec 32 := 149#32
  let v0 : BitVec 32 := Scalar.minsi arg0 c149_i32
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.muli v17 c4_i32
  let v19 : BitVec 32 := Scalar.addi v18 arg1
  let c149_i32_4 : BitVec 32 := 149#32
  let v20 : BitVec 32 := Scalar.minsi arg0 c149_i32_4
  let c5_i32_5 : BitVec 32 := 5#32
  let c0_i32_6 : BitVec 32 := 0#32
  let v21 : BitVec 1 := Scalar.cmpi .eq c5_i32_5 c0_i32_6
  let c1_i32_7 : BitVec 32 := 1#32
  let v22 : BitVec 32 := Scalar.select v21 c1_i32_7 c5_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  ![v19.toNat, v30.toNat]

def cc0_transform_1 (i : grid0.Coords) : Fin 2 → Nat :=
  let arg0 : BitVec 32 := BitVec.ofNat 32 (i 0).val
  let arg1 : BitVec 32 := BitVec.ofNat 32 (i 1).val
  let c149_i32 : BitVec 32 := 149#32
  let v0 : BitVec 32 := Scalar.minsi arg0 c149_i32
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.muli v17 c4_i32
  let v19 : BitVec 32 := Scalar.addi v18 arg1
  let c0_i32_4 : BitVec 32 := 0#32
  let c0_i32_5 : BitVec 32 := 0#32
  ![v19.toNat, c0_i32_4.toNat]

def cc0_transform_2 (i : grid0.Coords) : Fin 2 → Nat :=
  let arg0 : BitVec 32 := BitVec.ofNat 32 (i 0).val
  let arg1 : BitVec 32 := BitVec.ofNat 32 (i 1).val
  let c149_i32 : BitVec 32 := 149#32
  let v0 : BitVec 32 := Scalar.minsi arg0 c149_i32
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.muli v17 c4_i32
  let v19 : BitVec 32 := Scalar.addi v18 arg1
  let c0_i32_4 : BitVec 32 := 0#32
  let c0_i32_5 : BitVec 32 := 0#32
  ![v19.toNat, c0_i32_4.toNat]

def cc0_transform_3 (i : grid0.Coords) : Fin 2 → Nat :=
  let arg0 : BitVec 32 := BitVec.ofNat 32 (i 0).val
  let arg1 : BitVec 32 := BitVec.ofNat 32 (i 1).val
  let c149_i32 : BitVec 32 := 149#32
  let v0 : BitVec 32 := Scalar.minsi arg0 c149_i32
  let c5_i32 : BitVec 32 := 5#32
  let c0_i32 : BitVec 32 := 0#32
  let v1 : BitVec 1 := Scalar.cmpi .eq c5_i32 c0_i32
  let c1_i32 : BitVec 32 := 1#32
  let v2 : BitVec 32 := Scalar.select v1 c1_i32 c5_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  let v2 : BitVec 1 := Scalar.cmpi .eq c5_i32 c0_i32_0
  let c1_i32_1 : BitVec 32 := 1#32
  let v3 : BitVec 32 := Scalar.select v2 c1_i32_1 c5_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  ![arg1.toNat, v11.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let v2 : BitVec 32 := Scalar.divsi v1 c5_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c5_i32 c0_i32_2
  let v9 : BitVec 32 := Scalar.extui v8
  let c0_i32_3 : BitVec 32 := 0#32
  let v10 : BitVec 1 := Scalar.cmpi .slt c5_i32 c0_i32_3
  let v11 : BitVec 32 := Scalar.extui v10
  let v12 : BitVec 32 := Scalar.subi v9 v11
  let v13 : BitVec 1 := Scalar.cmpi .ne v7 v12
  let v14 : BitVec 32 := Scalar.remsi v1 c5_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

abbrev stage0_0 : Fin 2 → Memref sig .tc .vmem S128x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6400 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x6400 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== GradRefIdeal.lean ====
abbrev S15360x32000 : Shape := ⟨2, ![15360, 32000]⟩
abbrev S15360x128 : Shape := ⟨2, ![15360, 128]⟩
abbrev S15360x1 : Shape := ⟨2, ![15360, 1]⟩
abbrev S4096x32000 : Shape := ⟨2, ![4096, 32000]⟩
abbrev S1x32000 : Shape := ⟨2, ![1, 32000]⟩
abbrev S15360x4096 : Shape := ⟨2, ![15360, 4096]⟩
abbrev S15360x1600 : Shape := ⟨2, ![15360, 1600]⟩

abbrev nBuf : Space → Nat
  | .hbm => 6
  | .vmem => 6
  | .smem => 0
  | _ => 0

abbrev bufTy : (tb : Table) → Fin (tcTables nBuf tb) → BufTy
  | .hbm, ⟨0, _⟩ => ⟨S15360x32000, .f32⟩
  | .hbm, ⟨1, _⟩ => ⟨S15360x128, .f32⟩
  | .hbm, ⟨2, _⟩ => ⟨S15360x1, .i32⟩
  | .hbm, ⟨3, _⟩ => ⟨S4096x32000, .fp8e4m3⟩
  | .hbm, ⟨4, _⟩ => ⟨S1x32000, .f32⟩
  | .hbm, ⟨5, _⟩ => ⟨S15360x4096, .f32⟩
  | .local _ .vmem, ⟨0, _⟩ => ⟨S15360x32000, .f32⟩
  | .local _ .vmem, ⟨1, _⟩ => ⟨S15360x128, .f32⟩
  | .local _ .vmem, ⟨2, _⟩ => ⟨S15360x1, .i32⟩
  | .local _ .vmem, ⟨3, _⟩ => ⟨S4096x32000, .fp8e4m3⟩
  | .local _ .vmem, ⟨4, _⟩ => ⟨S1x32000, .f32⟩
  | .local _ .vmem, ⟨5, _⟩ => ⟨S15360x4096, .f32⟩
  | _, _ => ⟨S15360x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S15360x32000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x32000 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S15360x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.LogitsValue.lean ====
/-
  The value of the logits call at the extended reals: the array of logits that `LogitsIdeal` leaves is, index by index, what
  the plain reference `LogitsRefIdeal` leaves: a row of codes times a column of codes, times the row's and the column's scale.
-/
module

public import proofs.«01_k».proof.Proof.Gen.LogitsIdeal.Value
public import proofs.«01_k».proof.Proof.Gen.LogitsRefIdeal.Value
public import Idealize.ShloMosaic.Lib.Pointwise
public import Idealize.ShloMosaic.Lib.WholeRead
public import Idealize.ShloMosaic.Lib.Pipeline.ValueKit

@[expose] public section

set_option maxRecDepth 16384

noncomputable section

namespace Cert.Proof.LogitsValue

open Idealize.ShloMosaic Idealize.ShloMosaic.TcCoe Idealize.SL.Sem
open Idealize.ShloMosaic.ValueIdx (contrEquiv1 contrEquiv1_symm_val extf_apply)
open Cert.LogitsIdeal Cert.LogitsIdeal.Gen

variable (m : (ℓ : Loc nD τ sig) → Buf (Elt Ideal) ℓ)

abbrev Dk := dot_S256x4096_S4096x1280_S256x1280_1_0_0_1_n_n

theorem lhs0 (j : S256x1280.Idx) (k : Dk.contr.Idx) : (Dk.lhsIdx j k 0 : ℕ) = j 0 := by
  simp [DotDims.lhsIdx, Dk, dot_S256x4096_S4096x1280_S256x1280_1_0_0_1_n_n]; rfl
theorem lhs1 (j : S256x1280.Idx) (k : Dk.contr.Idx) : (Dk.lhsIdx j k 1 : ℕ) = k ⟨0, by decide⟩ :=
  Dk.lhsIdx_val_of_single rfl j k
theorem rhs0 (j : S256x1280.Idx) (k : Dk.contr.Idx) : (Dk.rhsIdx j k 0 : ℕ) = k ⟨0, by decide⟩ :=
  Dk.rhsIdx_val_of_single rfl j k
theorem rhs1 (j : S256x1280.Idx) (k : Dk.contr.Idx) : (Dk.rhsIdx j k 1 : ℕ) = j 1 := by
  simp [DotDims.rhsIdx, Dk, dot_S256x4096_S4096x1280_S256x1280_1_0_0_1_n_n]; rfl

/-- The block a point of the grid leaves, at an index. -/
def blockVal (x0 : Vec Ideal S1024x4096 .fp8e4m3) (x1 : Vec Ideal S1024x1 .f32) (x4 : Vec Ideal S4096x1280 .fp8e4m3)
    (x5 : Vec Ideal S1x1280 .f32) (r : Fin 1024) (n : Fin 1280) : EReal :=
  (∑ k : Fin 4096, x0 (ix2 r k) * x4 (ix2 k n)) * x1 (ix2 r 0) * x5 (ix2 0 n)

/-- A column spread over a tile, at an index. -/
theorem bcol (v : Vec Ideal S64x1 .f32) (h : S64x1.Broadcasts S64x128) (x : S64x128.Idx) : broadcastTo S64x128 v h x = v (ix2 (x 0) 0) :=
  broadcastTo_apply v h x (ix2 (x 0) 0) (by intro a; fin_cases a <;> rfl)
/-- A row spread over a tile, at an index. -/
theorem brow (v : Vec Ideal S1x128 .f32) (h : S1x128.Broadcasts S64x128) (x : S64x128.Idx) : broadcastTo S64x128 v h x = v (ix2 0 (x 1)) :=
  broadcastTo_apply v h x (ix2 0 (x 1)) (by intro a; fin_cases a <;> rfl)
/-- The product of one group of rows with one tile of columns, at an index. -/
theorem dotAt (a : Vec Ideal S256x4096 .fp8e4m3) (b : Vec Ideal S4096x1280 .fp8e4m3) (r : Fin 256) (n : Fin 1280) :
    matmul (F := Ideal) (φ₁ := .fp8e4m3) (φ₂ := .fp8e4m3) Dk none a b (constant S256x1280 .f32 0x00000000#32) (ix2 r n)
      = ∑ k : Fin 4096, a (ix2 r k) * b (ix2 k n) := by
  simp only [matmul]
  rw [Ideal.matmul_constant_zero_apply, ← Equiv.sum_comp (contrEquiv1 Dk 4096 rfl rfl).symm]
  refine Finset.sum_congr rfl fun k _ => ?_
  have hk := contrEquiv1_symm_val Dk 4096 rfl rfl k
  congr 2
  · apply Shape.idx_ext₂
    · rw [lhs0]; rfl
    · rw [lhs1, hk]; rfl
  · apply Shape.idx_ext₂
    · rw [rhs0, hk]; rfl
    · rw [rhs1]; rfl

/-- A tile that the body stores, at an index of it. -/
theorem tile (arg2 : Memref sig .tc .vmem S1024x4096 .fp8e4m3) (harg2 : arg2.IsWhole) (arg3 : Memref sig .tc .vmem S1024x1 .f32) (harg3 : arg3.IsWhole)
    (arg6 : Memref sig .tc .vmem S4096x1280 .fp8e4m3) (harg6 : arg6.IsWhole) (arg7 : Memref sig .tc .vmem S1x1280 .f32) (harg7 : arg7.IsWhole)
    (x0 : Vec Ideal S1024x4096 .fp8e4m3) (x1 : Vec Ideal S1024x1 .f32) (x4 : Vec Ideal S4096x1280 .fp8e4m3) (x5 : Vec Ideal S1x1280 .f32)
    (A G C g : ℕ) (hA : ∀ a, ![A, 0] a + S256x4096.size a ≤ S1024x4096.size a) (hB : ∀ a, ![0, 0] a + S4096x1280.size a ≤ S4096x1280.size a)
    (hR : ∀ a, ![G, 0] a + S64x1.size a ≤ S1024x1.size a) (hC : ∀ a, ![0, C] a + S1x128.size a ≤ S1x1280.size a)
    (hs : S256x1280.Slices ![g, C] S64x128) (hb1 : S64x1.Broadcasts S64x128) (hb2 : S1x128.Broadcasts S64x128)
    (hG : G = A + g) (y : S1024x1280.Idx) :
    View.TileAt (Val := Elt Ideal) (e := .f32) y ![G, C] S64x128.size
      (mulf (φ := .f32) (mulf (φ := .f32) (extractStridedSlice S64x128 ![g, C]
          (matmul (F := Ideal) (φ₁ := .fp8e4m3) (φ₂ := .fp8e4m3) Dk none (View.readAt (Elt Ideal) arg2.view (Rect.unit (s := S1024x4096) ![A, 0] S256x4096.size hA).toLoadRect (harg2.unread x0))
            (View.readAt (Elt Ideal) arg6.view (Rect.unit (s := S4096x1280) ![0, 0] S4096x1280.size hB).toLoadRect (harg6.unread x4))
            (constant S256x1280 .f32 0x00000000#32)) hs)
          (broadcastTo S64x128 (View.readAt (Elt Ideal) arg3.view (Rect.unit (s := S1024x1) ![G, 0] S64x1.size hR).toLoadRect (harg3.unread x1)) hb1))
        (broadcastTo S64x128 (View.readAt (Elt Ideal) arg7.view (Rect.unit (s := S1x1280) ![0, C] S1x128.size hC).toLoadRect (harg7.unread x5)) hb2))
      (blockVal x0 x1 x4 x5 (y 0) (y 1)) := by
  intro (x : S64x128.Idx) hx
  have e0 : (y 0 : ℕ) = G + (x 0 : ℕ) := hx 0
  have e1 : (y 1 : ℕ) = C + (x 1 : ℕ) := hx 1
  have b0 : (x 0 : ℕ) < 64 := (x 0).isLt
  have b1 : (x 1 : ℕ) < 128 := (x 1).isLt
  have hg : g + 64 ≤ 256 := hs.2 0
  have hc : C + 128 ≤ 1280 := hs.2 1
  unfold blockVal
  refine (ValueIdx.mulf_apply (s := S64x128) (φ := .f32) _ _ x).trans ?_
  refine congrArg₂ (· * ·) ((ValueIdx.mulf_apply (s := S64x128) (φ := .f32) _ _ x).trans ?_) ?_
  · refine congrArg₂ (· * ·) ?_ ?_
    · refine (extractStridedSlice_apply _ _ _ x (ix2 ⟨g + x 0, by omega⟩ ⟨C + x 1, by omega⟩) (by intro a; fin_cases a <;> rfl)).trans ?_
      refine (dotAt _ _ _ _).trans (Finset.sum_congr rfl fun k _ => ?_)
      rw [harg2.readAt_unread, harg6.readAt_unread]
      congr 2
      · apply Shape.idx_ext₂
        · show A + 1 * (g + (x 0 : ℕ)) = (y 0 : ℕ); omega
        · show 0 + 1 * (k : ℕ) = (k : ℕ); omega
      · apply Shape.idx_ext₂
        · show 0 + 1 * (k : ℕ) = (k : ℕ); omega
        · show 0 + 1 * (C + (x 1 : ℕ)) = (y 1 : ℕ); omega
    · refine (bcol _ hb1 x).trans ?_
      rw [harg3.readAt_unread]
      congr 1
      apply Shape.idx_ext₂
      · show G + 1 * (x 0 : ℕ) = (y 0 : ℕ); omega
      · rfl
  · refine (brow _ hb2 x).trans ?_
    rw [harg7.readAt_unread]
    congr 1
    apply Shape.idx_ext₂
    · rfl
    · show C + 1 * (x 1 : ℕ) = (y 1 : ℕ); omega

set_option maxHeartbeats 4000000 in
/-- The block that the first point of a row of the grid leaves. -/
theorem out_A (c : Dev nD) (i : grid0.Coords) (arg2 harg2 arg3 harg3 arg4 harg4 arg5 harg5 arg6 harg6 arg7 harg7 arg8 harg8 arg9 harg9 arg10 harg10 arg11 harg11 arg12 harg12 arg13 harg13 arg14 harg14 hc0 hc1)
    (x0 x1 x2 x3 x4 x5) (y : S1024x1280.Idx) :
    out0_A_6 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 y
      = blockVal x0 x1 x4 x5 (y 0) (y 1) := by
  have hcov := cover0_A_6 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 y
  unfold out0_A_6
  rw [View.read_writes_junk_eq_canon]
  refine View.canon_eq_of_allAt _ _ _ hcov ?_
  unfold kernelRun0_A
  sl_unfold_words
  repeat' first | exact View.allAt_nil _ _ | refine View.allAt_cons_unit _ _ _ _ _ ?_ ?_
  all_goals exact tile arg2 harg2 arg3 harg3 arg6 harg6 arg7 harg7 x0 x1 x4 x5 _ _ _ _ _ _ _ _ (by decide) (by decide) (by decide) (by decide) y

set_option maxHeartbeats 4000000 in
/-- The block that a middle point of a row of the grid leaves. -/
theorem out_B (c : Dev nD) (i : grid0.Coords) (arg2 harg2 arg3 harg3 arg4 harg4 arg5 harg5 arg6 harg6 arg7 harg7 arg8 harg8 arg9 harg9 arg10 harg10 arg11 harg11 arg12 harg12 arg13 harg13 arg14 harg14 hc0 hc1)
    (x0 x1 x2 x3 x4 x5 xs0 xs1 xs2 xs3 xs4) (y : S1024x1280.Idx) :
    out0_B_6 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 y
      = blockVal x0 x1 x4 x5 (y 0) (y 1) := by
  have hcov := cover0_B_6 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 y
  unfold out0_B_6
  rw [View.read_writes_junk_eq_canon]
  refine View.canon_eq_of_allAt _ _ _ hcov ?_
  unfold kernelRun0_B
  sl_unfold_words
  repeat' first | exact View.allAt_nil _ _ | refine View.allAt_cons_unit _ _ _ _ _ ?_ ?_
  all_goals exact tile arg2 harg2 arg3 harg3 arg6 harg6 arg7 harg7 x0 x1 x4 x5 _ _ _ _ _ _ _ _ (by decide) (by decide) (by decide) (by decide) y

set_option maxHeartbeats 4000000 in
/-- The block that the last point of a row of the grid leaves. -/
theorem out_C (c : Dev nD) (i : grid0.Coords) (arg2 harg2 arg3 harg3 arg4 harg4 arg5 harg5 arg6 harg6 arg7 harg7 arg8 harg8 arg9 harg9 arg10 harg10 arg11 harg11 arg12 harg12 arg13 harg13 arg14 harg14 hc0 hc1)
    (x0 x1 x2 x3 x4 x5 xs0 xs1 xs2 xs3 xs4) (y : S1024x1280.Idx) :
    out0_C_6 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 y
      = blockVal x0 x1 x4 x5 (y 0) (y 1) := by
  have hcov := cover0_C_6 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 y
  unfold out0_C_6
  rw [View.read_writes_junk_eq_canon]
  refine View.canon_eq_of_allAt _ _ _ hcov ?_
  unfold kernelRun0_C
  sl_unfold_words
  repeat' first | exact View.allAt_nil _ _ | refine View.allAt_cons_unit _ _ _ _ _ ?_ ?_
  all_goals exact tile arg2 harg2 arg3 harg3 arg6 harg6 arg7 harg7 x0 x1 x4 x5 _ _ _ _ _ _ _ _ (by decide) (by decide) (by decide) (by decide) y

/-! ## The reference, index by index -/

abbrev Rk := Cert.LogitsRefIdeal.dot_S15360x4096_S4096x32000_S15360x32000_1_0_0_1_n_n

theorem rlhs0 (j : Cert.LogitsRefIdeal.S15360x32000.Idx) (k : Rk.contr.Idx) : (Rk.lhsIdx j k 0 : ℕ) = j 0 := by
  simp [DotDims.lhsIdx, Rk, Cert.LogitsRefIdeal.dot_S15360x4096_S4096x32000_S15360x32000_1_0_0_1_n_n]; rfl
theorem rlhs1 (j : Cert.LogitsRefIdeal.S15360x32000.Idx) (k : Rk.contr.Idx) : (Rk.lhsIdx j k 1 : ℕ) = k ⟨0, by decide⟩ :=
  Rk.lhsIdx_val_of_single rfl j k
theorem rrhs0 (j : Cert.LogitsRefIdeal.S15360x32000.Idx) (k : Rk.contr.Idx) : (Rk.rhsIdx j k 0 : ℕ) = k ⟨0, by decide⟩ :=
  Rk.rhsIdx_val_of_single rfl j k
theorem rrhs1 (j : Cert.LogitsRefIdeal.S15360x32000.Idx) (k : Rk.contr.Idx) : (Rk.rhsIdx j k 1 : ℕ) = j 1 := by
  simp [DotDims.rhsIdx, Rk, Cert.LogitsRefIdeal.dot_S15360x4096_S4096x32000_S15360x32000_1_0_0_1_n_n]; rfl

/-- The reference's logits at an index. -/
theorem ref_apply (a0 : Vec Ideal Cert.LogitsRefIdeal.S15360x4096 .fp8e4m3) (a1 : Vec Ideal Cert.LogitsRefIdeal.S15360x1 .f32)
    (a4 : Vec Ideal Cert.LogitsRefIdeal.S4096x32000 .fp8e4m3) (a5 : Vec Ideal Cert.LogitsRefIdeal.S1x32000 .f32) (r : Fin 15360) (n : Fin 32000) :
    Cert.LogitsRefIdeal.Value.G4 a0 a1 a4 a5 (ix2 r n) = (∑ k : Fin 4096, a0 (ix2 r k) * a4 (ix2 k n)) * a1 (ix2 r 0) * a5 (ix2 0 n) := by
  unfold Cert.LogitsRefIdeal.Value.G4 Cert.LogitsRefIdeal.Gen.k0_pay1
  refine (ValueIdx.mulf_apply (s := Cert.LogitsRefIdeal.S15360x32000) (φ := .f32) _ _ _).trans ?_
  refine congrArg₂ (· * ·) ((ValueIdx.mulf_apply (s := Cert.LogitsRefIdeal.S15360x32000) (φ := .f32) _ _ _).trans ?_) ?_
  · refine congrArg₂ (· * ·) ?_ ?_
    · simp only [matmul]
      rw [Ideal.matmul_constant_zero_apply, ← Equiv.sum_comp (contrEquiv1 Rk 4096 rfl rfl).symm]
      refine Finset.sum_congr rfl fun k _ => ?_
      have hk := contrEquiv1_symm_val Rk 4096 rfl rfl k
      congr 2
      · apply Shape.idx_ext₂
        · rw [rlhs0]; rfl
        · rw [rlhs1, hk]; rfl
      · apply Shape.idx_ext₂
        · rw [rrhs0, hk]; rfl
        · rw [rrhs1]; rfl
    · exact broadcastTo_apply a1 _ _ (ix2 r 0) (by intro a; fin_cases a <;> rfl)
  · exact broadcastTo_apply a5 _ _ (ix2 0 n) (by intro a; fin_cases a <;> rfl)

/-! ## The array after the run -/

/-- Which block each window shows at a point of the grid. -/
theorem idx_facts : ∀ t : Fin grid0.N,
    win0_0.index t 0 = t.val / 25 ∧ win0_0.index t 1 = 0 ∧ win0_1.index t 0 = t.val / 25 ∧ win0_1.index t 1 = 0
    ∧ win0_4.index t 0 = 0 ∧ win0_4.index t 1 = t.val % 25 ∧ win0_5.index t 0 = 0 ∧ win0_5.index t 1 = t.val % 25
    ∧ win0_6.index t 0 = t.val / 25 ∧ win0_6.index t 1 = t.val % 25 := by decide +kernel

/-- What the window of the logits holds after any point of the grid. -/
theorem after_eq (c : Dev nD) (t : Fin cfg0.N) :
    (dats (F := Ideal) m 0 c).after 6 t = (fun y : S1024x1280.Idx =>
      blockVal (iblk m c 0 t) (iblk m c 1 t) (iblk m c 4 t) (iblk m c 5 t) (y 0) (y 1)) := by
  rw [after0_6]
  by_cases h0 : t.val % 25 = 0
  · have h1 : ¬ t.val % 25 = 24 := by omega
    simp only [outsAt0_A m c t h0 h1]
    funext y; exact out_A (c := c) (i := grid0.coords t) (y := y) (x2 := iblk m c 2 t) (x3 := iblk m c 3 t) ..
  · by_cases h1 : t.val % 25 = 24
    · simp only [outsAt0_C m c t h0 h1]
      funext y; exact out_C (c := c) (i := grid0.coords t) (y := y) (x2 := iblk m c 2 t) (x3 := iblk m c 3 t) ..
    · simp only [outsAt0_B m c t h0 h1]
      funext y; exact out_B (c := c) (i := grid0.coords t) (y := y) (x2 := iblk m c 2 t) (x3 := iblk m c 3 t) ..

/-- The array of logits after the run is the reference's. -/
theorem final6 (c : Dev nD) : (dats (F := Ideal) m 0 c).arrAt 6 cfg0.N
    = Cert.LogitsRefIdeal.Value.G4 (F := Ideal) (m ((c : Thread nD τ).loc main_arg0)) (m ((c : Thread nD τ).loc main_arg1))
        (m ((c : Thread nD τ).loc main_arg4)) (m ((c : Thread nD τ).loc main_arg5)) := by
  refine (dats m 0 c).arrAt_eq_of_covers 6 _ (by decide +kernel) fun t hf y => ?_
  blk_simp
  rw [after_eq]
  obtain ⟨h00, h01, h10, h11, h40, h41, h50, h51, h60, h61⟩ := idx_facts t
  idx_vars y
  have e : ((View.whole main_v0_0).slice (win0_6.rect t)).emb (ix2 y0 y1)
      = ix2 (⟨1024 * (t.val / 25) + y0, by have := t.isLt; have h : cfg0.grid.N = 375 := rfl; omega⟩ : Fin 15360)
          (⟨1280 * (t.val % 25) + y1, by omega⟩ : Fin 32000) := by
    blk_ext [h60, h61]
  refine Eq.trans ?_ ((congrArg _ e).trans (ref_apply _ _ _ _ _ _)).symm
  unfold blockVal
  refine congrArg₂ (· * ·) (congrArg₂ (· * ·) (Finset.sum_congr rfl fun k _ => congrArg₂ (· * ·) ?_ ?_) ?_) ?_
  · blk_ext [iblk, V, h00, h01]
  · blk_ext [iblk, V, h40, h41]
  · blk_ext [iblk, V, h10, h11]
  · blk_ext [iblk, V, h50, h51]

end Cert.Proof.LogitsValue

end
-- ==== Proof.LogitsClaims.lean ====
/-
  The claim of the logits call that is not generated: that the logits it writes are the reference's.
-/
module

public import proofs.«01_k».proof.Defs
public import proofs.«01_k».proof.Proof.Gen.LogitsIdeal.Value
public import proofs.«01_k».proof.Proof.Gen.LogitsRefIdeal.Value
public import proofs.«01_k».proof.Proof.LogitsValue

@[expose] public section

noncomputable section

namespace Cert.Proof.LogitsClaims

open Idealize.ShloMosaic Idealize.SL.Sem

theorem congr4 {α β γ δ ε : Type*} (f : α → β → γ → δ → ε) {a a' : α} {b b' : β} {c c' : γ} {d d' : δ} (ha : a = a') (hb : b = b')
    (hc : c = c') (hd : d = d') : f a b c d = f a' b' c' d' := by subst ha hb hc hd; rfl

theorem algebraic : Cert.algebraic_LogitsIdeal_LogitsRefIdeal := fun m ρ m' ρ' _ hag =>
  ⟨fun c => Cert.LogitsRefIdeal.Value.G4 (m ((c.tc : Thread Cert.LogitsIdeal.nD Cert.LogitsIdeal.τ).loc Cert.LogitsIdeal.main_arg0)) (m ((c.tc : Thread Cert.LogitsIdeal.nD Cert.LogitsIdeal.τ).loc Cert.LogitsIdeal.main_arg1))
      (m ((c.tc : Thread Cert.LogitsIdeal.nD Cert.LogitsIdeal.τ).loc Cert.LogitsIdeal.main_arg4)) (m ((c.tc : Thread Cert.LogitsIdeal.nD Cert.LogitsIdeal.τ).loc Cert.LogitsIdeal.main_arg5)),
   (θ_run Cert.LogitsIdeal.defs _ _).mono (fun _ h c => ⟨(h c).1.trans (LogitsValue.final6 m c), (h c).2.2⟩)
     (Cert.LogitsIdeal.Value.run_blocks m ρ),
   (θ_run Cert.LogitsRefIdeal.defs _ _).mono (fun _ h c => ⟨(h c).1.trans (congr4 Cert.LogitsRefIdeal.Value.G4 (hag c).1 (hag c).2.1 (hag c).2.2.2.2.1 (hag c).2.2.2.2.2),
     (h c).2⟩)
     (Cert.LogitsRefIdeal.Value.run m' ρ')⟩

end Cert.Proof.LogitsClaims
-- ==== Proof.DzValue.lean ====
/-
  The value of the call that multiplies the gradient of the rows by the activation's derivative: what `DzIdeal` leaves in
  its two result arrays is, index by index, what the plain reference `DzRefIdeal` leaves in its two.
-/
module

public import proofs.«01_k».proof.Proof.Gen.DzIdeal.Value
public import proofs.«01_k».proof.Proof.Gen.DzRefIdeal.Read
public import Idealize.ShloMosaic.Lib.Pointwise
public import Idealize.ShloMosaic.Lib.Pipeline.ValueKit

@[expose] public section

set_option maxRecDepth 16384

noncomputable section

namespace Cert.Proof.DzValue

open Idealize.ShloMosaic Idealize.ShloMosaic.TcCoe Idealize.SL.Sem
open Cert.DzIdeal Cert.DzIdeal.Gen

variable (m : (ℓ : Loc nD τ sig) → Buf (Elt Ideal) ℓ)

/-- The number one, as both programs write it. -/
abbrev one : Ideal .f32 := FloatOps.ofBits .f32 0x3F800000#32

/-- A gradient times the derivative of `z * logistic z`. -/
def dsilu (d z : Ideal .f32) : Ideal .bf16 :=
  FloatOps.truncf .bf16 bitsLt_bf16_f32 (FloatOps.mulf d (FloatOps.mulf (FloatOps.logistic z)
    (FloatOps.addf one (FloatOps.mulf z (FloatOps.subf one (FloatOps.logistic z))))))

/-- A tile read through a rectangle of an input block, without its unit axis, at an index. -/
theorem ld_tile (x : Vec Ideal S5x64x4096 .f32) (K A C : ℕ) (inb : ∀ a, ![K, A, C] a + S1x16x512.size a ≤ S5x64x4096.size a)
    (h : S1x16x512.ShapeCasts S16x512) (r : Fin 16) (n : Fin 512) (k : Fin 5) (a : Fin 64) (b : Fin 4096)
    (hk : (k : ℕ) = K) (ha : (a : ℕ) = A + r) (hb : (b : ℕ) = C + n) :
    shapeCast S16x512 (View.ld (Val := Elt Ideal) (e' := .f32) x (Rect.unit (s := S5x64x4096) ![K, A, C] S1x16x512.size inb)) h (ix2 r n)
      = x (ix3 k a b) := by
  refine (shapeCast_apply _ h (ix2 r n) (ix3 0 r n) (by rw [Shape.rowMajor_val_two, Shape.rowMajor_val_three]; simp)).trans ?_
  refine View.ld_unit_apply_of _ _ _ _ _ _ ?_
  intro i; fin_cases i
  · simpa using hk
  · exact ha
  · exact hb

/-- A tile of the first result that the body stores, at an index of it. -/
theorem tile (x0 x1 : Vec Ideal S5x64x4096 .f32) (K A C : ℕ) (inb : ∀ a, ![K, A, C] a + S1x16x512.size a ≤ S5x64x4096.size a)
    (h : S1x16x512.ShapeCasts S16x512) (h' : S16x512.ShapeCasts S1x16x512) (y : S5x64x4096.Idx) :
    View.TileAt (Val := Elt Ideal) (e := .bf16) y ![K, A, C] S1x16x512.size
      (shapeCast S1x16x512 (truncf .bf16 (mulf (φ := .f32)
        (shapeCast S16x512 (View.ld (Val := Elt Ideal) (e' := .f32) x0 (Rect.unit (s := S5x64x4096) ![K, A, C] S1x16x512.size inb)) h)
        (mulf (φ := .f32) (logistic (φ := .f32) (shapeCast S16x512 (View.ld (Val := Elt Ideal) (e' := .f32) x1 (Rect.unit (s := S5x64x4096) ![K, A, C] S1x16x512.size inb)) h))
          (addf (φ := .f32) (broadcast S16x512 (Scalar.ofBits (F := Ideal) .f32 0x3F800000#32))
            (mulf (φ := .f32) (shapeCast S16x512 (View.ld (Val := Elt Ideal) (e' := .f32) x1 (Rect.unit (s := S5x64x4096) ![K, A, C] S1x16x512.size inb)) h)
              (subf (φ := .f32) (broadcast S16x512 (Scalar.ofBits (F := Ideal) .f32 0x3F800000#32))
                (logistic (φ := .f32) (shapeCast S16x512 (View.ld (Val := Elt Ideal) (e' := .f32) x1 (Rect.unit (s := S5x64x4096) ![K, A, C] S1x16x512.size inb)) h)))))))
        bitsLt_bf16_f32) h')
      (dsilu (x0 y) (x1 y)) := by
  intro (x : S1x16x512.Idx) hx
  have e0 : (y 0 : ℕ) = K + (x 0 : ℕ) := hx 0
  have e1 : (y 1 : ℕ) = A + (x 1 : ℕ) := hx 1
  have e2 : (y 2 : ℕ) = C + (x 2 : ℕ) := hx 2
  have b0 : (x 0 : ℕ) < 1 := (x 0).isLt
  have ey : y = ix3 (y 0) (y 1) (y 2) := by funext a; fin_cases a <;> rfl
  refine (shapeCast_apply _ h' x (ix2 (x 1) (x 2)) ?_).trans ?_
  · rw [Shape.rowMajor_val_two, Shape.rowMajor_val_three]; simp
  · have l0 := ld_tile x0 K A C inb h (x 1) (x 2) (y 0) (y 1) (y 2) (by omega) e1 e2
    have l1 := ld_tile x1 K A C inb h (x 1) (x 2) (y 0) (y 1) (y 2) (by omega) e1 e2
    exact Eq.trans rfl (congrArg₂ dsilu (l0.trans (congrArg x0 ey.symm)) (l1.trans (congrArg x1 ey.symm)))

/-- A tile of the second result that the body stores, at an index of it: the sum over the five heads. -/
theorem tileSum (x0 : Vec Ideal S5x64x4096 .f32) (A C : ℕ)
    (i0 : ∀ a, ![0, A, C] a + S1x16x512.size a ≤ S5x64x4096.size a) (i1 : ∀ a, ![1, A, C] a + S1x16x512.size a ≤ S5x64x4096.size a)
    (i2 : ∀ a, ![2, A, C] a + S1x16x512.size a ≤ S5x64x4096.size a) (i3 : ∀ a, ![3, A, C] a + S1x16x512.size a ≤ S5x64x4096.size a)
    (i4 : ∀ a, ![4, A, C] a + S1x16x512.size a ≤ S5x64x4096.size a)
    (h : S1x16x512.ShapeCasts S16x512) (y : S64x4096.Idx) :
    View.TileAt (Val := Elt Ideal) (e := .f32) y ![A, C] S16x512.size
      (addf (F := Ideal) (s := S16x512) (φ := .f32) (addf (F := Ideal) (s := S16x512) (φ := .f32) (addf (F := Ideal) (s := S16x512) (φ := .f32) (addf (F := Ideal) (s := S16x512) (φ := .f32)
        (shapeCast S16x512 (View.ld (Val := Elt Ideal) (e' := .f32) x0 (Rect.unit (s := S5x64x4096) ![0, A, C] S1x16x512.size i0)) h)
        (shapeCast S16x512 (View.ld (Val := Elt Ideal) (e' := .f32) x0 (Rect.unit (s := S5x64x4096) ![1, A, C] S1x16x512.size i1)) h))
        (shapeCast S16x512 (View.ld (Val := Elt Ideal) (e' := .f32) x0 (Rect.unit (s := S5x64x4096) ![2, A, C] S1x16x512.size i2)) h))
        (shapeCast S16x512 (View.ld (Val := Elt Ideal) (e' := .f32) x0 (Rect.unit (s := S5x64x4096) ![3, A, C] S1x16x512.size i3)) h))
        (shapeCast S16x512 (View.ld (Val := Elt Ideal) (e' := .f32) x0 (Rect.unit (s := S5x64x4096) ![4, A, C] S1x16x512.size i4)) h))
      ((∑ k : Fin 5, x0 (ix3 k (y 0) (y 1)) : EReal)) := by
  intro (x : S16x512.Idx) hx
  have e0 : (y 0 : ℕ) = A + (x 0 : ℕ) := hx 0
  have e1 : (y 1 : ℕ) = C + (x 1 : ℕ) := hx 1
  have ex : x = ix2 (x 0) (x 1) := by funext a; fin_cases a <;> rfl
  rw [Fin.sum_univ_five]
  refine (congrArg _ ex).trans ?_
  exact congrArg₂ (· + ·) (congrArg₂ (· + ·) (congrArg₂ (· + ·) (congrArg₂ (· + ·)
    (ld_tile x0 0 A C i0 h (x 0) (x 1) 0 (y 0) (y 1) rfl e0 e1) (ld_tile x0 1 A C i1 h (x 0) (x 1) 1 (y 0) (y 1) rfl e0 e1))
    (ld_tile x0 2 A C i2 h (x 0) (x 1) 2 (y 0) (y 1) rfl e0 e1)) (ld_tile x0 3 A C i3 h (x 0) (x 1) 3 (y 0) (y 1) rfl e0 e1))
    (ld_tile x0 4 A C i4 h (x 0) (x 1) 4 (y 0) (y 1) rfl e0 e1)

set_option maxHeartbeats 4000000 in
/-- The first result's block, at an index. -/
theorem out2 (x0 x1 : Vec Ideal S5x64x4096 .f32) (y : S5x64x4096.Idx) : out0_2 (F := Ideal) x0 x1 y = dsilu (x0 y) (x1 y) := by
  unfold out0_2
  refine View.canon_eq_of_allAt _ _ _ (cover0_2 ..) ?_
  repeat' first | exact View.allAt_nil _ _ | refine View.allAt_cons_unit _ _ _ _ _ ?_ ?_
  all_goals exact tile x0 x1 _ _ _ _ shapeCasts_S1x16x512_S16x512 shapeCasts_S16x512_S1x16x512 y

set_option maxHeartbeats 4000000 in
/-- The second result's block, at an index. -/
theorem out3 (x0 x1 : Vec Ideal S5x64x4096 .f32) (y : S64x4096.Idx) :
    out0_3 (F := Ideal) x0 x1 y = (∑ k : Fin 5, x0 (ix3 k (y 0) (y 1)) : EReal) := by
  unfold out0_3
  refine View.canon_eq_of_allAt _ _ _ (cover0_3 ..) ?_
  repeat' first | exact View.allAt_nil _ _ | refine View.allAt_cons_unit _ _ _ _ _ ?_ ?_
  all_goals exact tileSum x0 _ _ (by decide) (by decide) (by decide) (by decide) (by decide) shapeCasts_S1x16x512_S16x512 y

/-! ## The reference, index by index -/

/-- The reference's first result at an index. -/
theorem ref13 (x0 x1 : Vec Ideal S5x3072x4096 .f32) (i : S5x3072x4096.Idx) :
    Cert.DzRefIdeal.Read.val_main_v13 (F := Ideal) x0 x1 i = dsilu (x0 i) (x1 i) := by
  have hl : FloatOps.logistic (F := Ideal) (φ := .f32) (x1 i) = Cert.DzRefIdeal.Read.val_main_v5 (F := Ideal) x1 i := by
    rw [Cert.DzRefIdeal.Read.val_main_v5_apply, Cert.DzRefIdeal.Read.val_main_v4_apply, Cert.DzRefIdeal.Read.val_main_v3_apply,
      Cert.DzRefIdeal.Read.val_main_v2_apply, Cert.DzRefIdeal.Read.val_main_v1_apply, Cert.DzRefIdeal.Read.val_main_v0_apply,
      Cert.DzRefIdeal.Read.val_main_cst_apply, Cert.DzRefIdeal.Read.val_main_cst_0_apply]
    simp [Ideal.logistic, Ideal.ofBits_one_f32]
  unfold dsilu
  rw [hl]
  simp only [Cert.DzRefIdeal.Read.val_main_v13_apply, Cert.DzRefIdeal.Read.val_main_v12_apply, Cert.DzRefIdeal.Read.val_main_v11_apply,
    Cert.DzRefIdeal.Read.val_main_v10_apply, Cert.DzRefIdeal.Read.val_main_v9_apply, Cert.DzRefIdeal.Read.val_main_v8_apply,
    Cert.DzRefIdeal.Read.val_main_v7_apply, Cert.DzRefIdeal.Read.val_main_v6_apply, Cert.DzRefIdeal.Read.val_main_cst_1_apply,
    Cert.DzRefIdeal.Read.val_main_cst_2_apply]

/-- The reference's second result at an index. -/
theorem ref14 (x0 : Vec Ideal S5x3072x4096 .f32) (i : S3072x4096.Idx) :
    Cert.DzRefIdeal.Read.val_main_v14 (F := Ideal) x0 i = (∑ k : Fin 5, x0 (ix3 k (i 0) (i 1)) : EReal) := by
  rw [Cert.DzRefIdeal.Read.val_main_v14_apply, Cert.DzRefIdeal.Read.val_main_cst_3_apply]
  refine (congrArg (· + _) Ideal.ofBits_zero_f32).trans ((zero_add _).trans ?_)
  refine Finset.sum_congr rfl fun k _ => congrArg x0 ?_
  funext a; apply Fin.ext; fin_cases a <;> rfl

/-! ## The arrays after the run -/

/-- Which block each window shows at a point of the grid. -/
theorem idx_facts : ∀ t : Fin grid0.N,
    win0_0.index t 0 = 0 ∧ win0_0.index t 1 = t.val ∧ win0_0.index t 2 = 0
    ∧ win0_1.index t 0 = 0 ∧ win0_1.index t 1 = t.val ∧ win0_1.index t 2 = 0
    ∧ win0_2.index t 0 = 0 ∧ win0_2.index t 1 = t.val ∧ win0_2.index t 2 = 0
    ∧ win0_3.index t 0 = t.val ∧ win0_3.index t 1 = 0 := by decide +kernel

/-- The first result after the run is the reference's. -/
theorem final2 (c : Dev nD) : (dats (F := Ideal) m 0 c).arrAt 2 cfg0.N
    = Cert.DzRefIdeal.Read.val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  obtain ⟨h00, h01, h02, h10, h11, h12, h20, h21, h22, -⟩ := idx_facts t
  refine (out2 _ _ _).trans (Eq.trans ?_ (ref13 _ _ _).symm)
  idx_vars y
  refine congrArg₂ dsilu ?_ ?_
  · blk_ext [iblk, V, h00, h01, h02, h20, h21, h22]
  · blk_ext [iblk, V, h10, h11, h12, h20, h21, h22]

/-- The second result after the run is the reference's. -/
theorem final3 (c : Dev nD) : (dats (F := Ideal) m 0 c).arrAt 3 cfg0.N
    = Cert.DzRefIdeal.Read.val_main_v14 (F := Ideal) (m ((c : Thread nD τ).loc main_arg0)) := by
  refine (dats m 0 c).arrAt_eq_of_covers 3 _ (by decide +kernel) fun t hf y => ?_
  blk_simp
  rw [after0_3]
  obtain ⟨h00, h01, h02, -, -, -, -, -, -, h30, h31⟩ := idx_facts t
  refine (out3 _ _ _).trans (Eq.trans ?_ (ref14 _ _).symm)
  idx_vars y
  refine Finset.sum_congr rfl fun k _ => ?_
  blk_ext [iblk, V, h00, h01, h02, h30, h31]

end Cert.Proof.DzValue

end
-- ==== Proof.DzClaims.lean ====
/-
  The claims of the derivative call that are not generated: the reference's frame, and that the call's two results are the
  reference's.
-/
module

public import proofs.«01_k».proof.Defs
public import proofs.«01_k».proof.Proof.Gen.DzIdeal.Value
public import proofs.«01_k».proof.Proof.Gen.DzRefIdeal.Run
public import proofs.«01_k».proof.Proof.Gen.DzRefIdeal.Read
public import proofs.«01_k».proof.Proof.DzValue

@[expose] public section

noncomputable section

namespace Cert.Proof.DzClaims

open Idealize.ShloMosaic Idealize.SL.Sem

theorem frame_ref : Cert.quiescent_DzRefIdeal := fun m ρ _ =>
  (θ_run Cert.DzRefIdeal.defs _ _).mono (fun r h => ⟨fun c => (h c).2.2, sem_eq_zero_of_no_sems (by decide) r.2⟩)
    (Cert.DzRefIdeal.Value.run (F := Ideal) m ρ)

theorem algebraic : Cert.algebraic_DzIdeal_DzRefIdeal := fun m ρ m' ρ' _ hag =>
  ⟨fun c => Cert.DzRefIdeal.Read.val_main_v13 (m ((c.tc : Thread Cert.DzIdeal.nD Cert.DzIdeal.τ).loc Cert.DzIdeal.main_arg0)) (m ((c.tc : Thread Cert.DzIdeal.nD Cert.DzIdeal.τ).loc Cert.DzIdeal.main_arg1)),
   fun c => Cert.DzRefIdeal.Read.val_main_v14 (m ((c.tc : Thread Cert.DzIdeal.nD Cert.DzIdeal.τ).loc Cert.DzIdeal.main_arg0)),
   (θ_run Cert.DzIdeal.defs _ _).mono (fun _ h c => ⟨(h c).1.trans (DzValue.final2 m c), (h c).2.1.trans (DzValue.final3 m c), (h c).2.2⟩)
     (Cert.DzIdeal.Value.run_blocks m ρ),
   (θ_run Cert.DzRefIdeal.defs _ _).mono (fun _ h c => ⟨(h c).1.trans (congrArg₂ Cert.DzRefIdeal.Read.val_main_v13 (hag c).1 (hag c).2),
     (h c).2.1.trans (congrArg Cert.DzRefIdeal.Read.val_main_v14 (hag c).1), (h c).2.2⟩)
     (Cert.DzRefIdeal.Value.run m' ρ')⟩

end Cert.Proof.DzClaims
-- ==== Proof.DwValue.lean ====
/-
  The value of the weight-gradient call at the extended reals: what `DwIdeal` leaves in its two result arrays is, index by
  index, what the plain reference `DwRefIdeal` leaves in its two.
-/
module

public import proofs.«01_k».proof.Proof.Gen.DwIdeal.Value
public import proofs.«01_k».proof.Proof.Gen.DwRefIdeal.Read
public import Idealize.ShloMosaic.Lib.Pointwise
public import Idealize.ShloMosaic.Lib.Pipeline.ValueKit

@[expose] public section

set_option maxRecDepth 16384

noncomputable section

namespace Cert.Proof.DwValue

open Idealize.ShloMosaic Idealize.ShloMosaic.TcCoe Idealize.SL.Sem
open Idealize.ShloMosaic.ValueIdx (contrEquiv1 contrEquiv1_symm_val extf_apply)
open Cert.DwIdeal Cert.DwIdeal.Gen

variable (m : (ℓ : Loc nD τ sig) → Buf (Elt Ideal) ℓ)

abbrev Dk := dot_S4096x3072_S3072x256_S4096x256_1_0_0_1_n_n

theorem lhs0 (j : S4096x256.Idx) (k : Dk.contr.Idx) : (Dk.lhsIdx j k 0 : ℕ) = j 0 := by
  simp [DotDims.lhsIdx, Dk, dot_S4096x3072_S3072x256_S4096x256_1_0_0_1_n_n]; rfl
theorem lhs1 (j : S4096x256.Idx) (k : Dk.contr.Idx) : (Dk.lhsIdx j k 1 : ℕ) = k ⟨0, by decide⟩ :=
  Dk.lhsIdx_val_of_single rfl j k
theorem rhs0 (j : S4096x256.Idx) (k : Dk.contr.Idx) : (Dk.rhsIdx j k 0 : ℕ) = k ⟨0, by decide⟩ :=
  Dk.rhsIdx_val_of_single rfl j k
theorem rhs1 (j : S4096x256.Idx) (k : Dk.contr.Idx) : (Dk.rhsIdx j k 1 : ℕ) = j 1 := by
  simp [DotDims.rhsIdx, Dk, dot_S4096x3072_S3072x256_S4096x256_1_0_0_1_n_n]; rfl

/-- The product's payload at an index of its block. -/
theorem pay1_apply (a : Vec Ideal S4096x3072 .bf16) (b : Vec Ideal S1x3072x256 .bf16) (r : Fin 4096) (n : Fin 256) :
    k0_pay1 a b (ix3 0 r n) = ∑ k : Fin 3072, a (ix2 r k) * b (ix3 0 k n) := by
  unfold k0_pay1
  rw [shapeCast_apply _ _ (ix3 0 r n) (ix2 r n) (by rw [Shape.rowMajor_val_two, Shape.rowMajor_val_three]; simp)]
  simp only [matmul]
  rw [Ideal.matmul_constant_zero_apply, ← Equiv.sum_comp (contrEquiv1 Dk 3072 rfl rfl).symm]
  refine Finset.sum_congr rfl fun k _ => ?_
  have hk := contrEquiv1_symm_val Dk 3072 rfl rfl k
  rw [shapeCast_apply _ _ (Dk.rhsIdx (ix2 r n) ((contrEquiv1 Dk 3072 rfl rfl).symm k)) (ix3 0 k n)
    (by rw [Shape.rowMajor_val_two, Shape.rowMajor_val_three, rhs0, rhs1, hk]; simp)]
  congr 2
  apply Shape.idx_ext₂
  · rw [lhs0]; rfl
  · rw [lhs1, hk]; rfl

/-- The column sum's payload at an index of its block. -/
theorem pay2_apply (b : Vec Ideal S1x3072x256 .bf16) (n : Fin 256) :
    k0_pay2 b (ix3 0 0 n) = ∑ k : Fin 3072, b (ix3 0 k n) := by
  unfold k0_pay2
  rw [shapeCast_apply _ _ (ix3 0 0 n) (ix2 0 n) (by rw [Shape.rowMajor_val_two, Shape.rowMajor_val_three]; simp),
    shapeCast_apply _ _ (ix2 0 n) (ix1 n) (by rw [Shape.rowMajor_val_one, Shape.rowMajor_val_two]; simp)]
  refine (Ideal.multiReduction_add_single _ _ _ _ _ _).trans ?_
  refine Finset.sum_congr rfl fun k _ => ?_
  rw [extf_apply]
  exact shapeCast_apply _ _ _ (ix3 0 k n) (by rw [Shape.rowMajor_val_two, Shape.rowMajor_val_three]; simp; rfl)

/-- The reference's product at an index. -/
theorem ref1_apply (x : Vec Ideal S4096x3072 .bf16) (z : Vec Ideal S5x3072x4096 .bf16) (i : S5x4096x4096.Idx) :
    Cert.DwRefIdeal.Read.val_main_v1 (F := Ideal) x z i = ∑ k : Fin 3072, x (ix2 (i 1) k) * z (ix3 (i 0) k (i 2)) := by
  rw [Cert.DwRefIdeal.Read.val_main_v1_apply, Cert.DwRefIdeal.Read.val_main_v0_apply]
  refine Finset.sum_congr rfl fun k _ => (mul_comm _ _).trans ?_
  congr 2 <;> (funext a; apply Fin.ext; fin_cases a <;> rfl)

/-- The reference's column sum at an index. -/
theorem ref2_apply (z : Vec Ideal S5x3072x4096 .bf16) (i : S5x1x4096.Idx) :
    Cert.DwRefIdeal.Read.val_main_v4 (F := Ideal) z i = ∑ k : Fin 3072, z (ix3 (i 0) k (i 2)) := by
  rw [Cert.DwRefIdeal.Read.val_main_v4_apply, Cert.DwRefIdeal.Read.val_main_v3_apply, Cert.DwRefIdeal.Read.val_main_cst_apply]
  refine (congrArg (· + _) Ideal.ofBits_zero_f32).trans ((zero_add _).trans ?_)
  refine Finset.sum_congr rfl fun k _ => ?_
  rw [Cert.DwRefIdeal.Read.val_main_v2_apply]
  exact congrArg z (by funext a; apply Fin.ext; fin_cases a <;> rfl)

theorem idx_facts : ∀ t : Fin grid0.N,
    win0_0.index t 0 = 0 ∧ win0_0.index t 1 = 0
    ∧ win0_1.index t 0 = t.val / 16 ∧ win0_1.index t 1 = 0 ∧ win0_1.index t 2 = t.val % 16
    ∧ win0_2.index t 0 = t.val / 16 ∧ win0_2.index t 1 = 0 ∧ win0_2.index t 2 = t.val % 16
    ∧ win0_3.index t 0 = t.val / 16 ∧ win0_3.index t 1 = 0 ∧ win0_3.index t 2 = t.val % 16 := by decide +kernel

theorem final2 (c : Dev nD) : (dats (F := Ideal) m 0 c).arrAt 2 cfg0.N
    = Cert.DwRefIdeal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨h00, h01, h10, h11, h12, h20, h21, h22, -⟩ := idx_facts t
  obtain rfl : y0 = 0 := Subsingleton.elim _ _
  refine (pay1_apply _ _ _ _).trans (Eq.trans ?_ (ref1_apply _ _ _).symm)
  refine Finset.sum_congr rfl fun k _ => ?_
  congr 1 <;> blk_ext [iblk, V, h00, h01, h10, h11, h12, h20, h21, h22]

theorem final3 (c : Dev nD) : (dats (F := Ideal) m 0 c).arrAt 3 cfg0.N
    = Cert.DwRefIdeal.Read.val_main_v4 (F := Ideal) (m ((c : Thread nD τ).loc main_arg1)) := by
  refine (dats m 0 c).arrAt_eq_of_covers 3 _ (by decide +kernel) fun t hf y => ?_
  blk_simp
  rw [after0_3]
  frame_out
  idx_vars y
  obtain ⟨h00, h01, h10, h11, h12, -, -, -, h30, h31, h32⟩ := idx_facts t
  obtain rfl : y0 = 0 := Subsingleton.elim _ _
  obtain rfl : y1 = 0 := Subsingleton.elim _ _
  refine (pay2_apply _ _).trans (Eq.trans ?_ (ref2_apply _ _).symm)
  refine Finset.sum_congr rfl fun k _ => ?_
  blk_ext [iblk, V, h10, h11, h12, h30, h31, h32]

end Cert.Proof.DwValue

end
-- ==== Proof.DwClaims.lean ====
/-
  The claims of the weight-gradient call that are not generated: the reference's frame, and that the call's two results are
  the reference's.
-/
module

public import proofs.«01_k».proof.Defs
public import proofs.«01_k».proof.Proof.Gen.DwIdeal.Value
public import proofs.«01_k».proof.Proof.Gen.DwRefIdeal.Run
public import proofs.«01_k».proof.Proof.Gen.DwRefIdeal.Read
public import proofs.«01_k».proof.Proof.DwValue

@[expose] public section

noncomputable section

namespace Cert.Proof.DwClaims

open Idealize.ShloMosaic Idealize.SL.Sem

theorem frame_ref : Cert.quiescent_DwRefIdeal := fun m ρ _ =>
  (θ_run Cert.DwRefIdeal.defs _ _).mono (fun r h => ⟨fun c => (h c).2.2, sem_eq_zero_of_no_sems (by decide) r.2⟩)
    (Cert.DwRefIdeal.Value.run (F := Ideal) m ρ)

theorem algebraic : Cert.algebraic_DwIdeal_DwRefIdeal := fun m ρ m' ρ' _ hag =>
  ⟨fun c => Cert.DwRefIdeal.Read.val_main_v1 (m ((c.tc : Thread Cert.DwIdeal.nD Cert.DwIdeal.τ).loc Cert.DwIdeal.main_arg0)) (m ((c.tc : Thread Cert.DwIdeal.nD Cert.DwIdeal.τ).loc Cert.DwIdeal.main_arg1)),
   fun c => Cert.DwRefIdeal.Read.val_main_v4 (m ((c.tc : Thread Cert.DwIdeal.nD Cert.DwIdeal.τ).loc Cert.DwIdeal.main_arg1)),
   (θ_run Cert.DwIdeal.defs _ _).mono (fun _ h c => ⟨(h c).1.trans (DwValue.final2 m c), (h c).2.1.trans (DwValue.final3 m c), (h c).2.2⟩)
     (Cert.DwIdeal.Value.run_blocks m ρ),
   (θ_run Cert.DwRefIdeal.defs _ _).mono (fun _ h c => ⟨(h c).1.trans (congrArg₂ Cert.DwRefIdeal.Read.val_main_v1 (hag c).1 (hag c).2),
     (h c).2.1.trans (congrArg Cert.DwRefIdeal.Read.val_main_v4 (hag c).2), (h c).2.2⟩)
     (Cert.DwRefIdeal.Value.run m' ρ')⟩

end Cert.Proof.DwClaims
-- ==== Proof.GradRunA.lean ====
/-
  One run of the gradient kernel's body at a step of even number: the tiles it stores into the scratch it fills, and the columns it
  stores into the output's block, found by running it.
-/
module

public import proofs.«01_k».proof.Proof.Gen.Grad.Frame
public import proofs.«01_k».proof.Proof.Gen.Grad.Skeleton
public import Idealize.ShloMosaic.Lib.Pipeline.Frame
public import Idealize.ShloMosaic.Lib.Tactic

@[expose] public section

set_option maxRecDepth 16384

noncomputable section

namespace Cert.Proof.GradRun

open Cert.Grad Cert.Grad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 8000000 in
/-- The body at a step of even number, from the contents of every buffer: what it has stored when it ends, as pieces over what
    the two buffers held before. -/
noncomputable def runA (c : Dev nD) (i : grid0.Coords) (arg2 : Memref sig .tc .vmem S128x6400 .f32) (harg2 : arg2.IsWhole) (arg3 : Memref sig .tc .vmem S128x128 .f32) (harg3 : arg3.IsWhole) (arg4 : Memref sig .tc .vmem S128x1 .i32) (harg4 : arg4.IsWhole) (arg5 : Memref sig .tc .vmem S1x6400 .bf16) (harg5 : arg5.IsWhole) (arg6 : Memref sig .tc .vmem S1024x6400 .fp8e4m3) (harg6 : arg6.IsWhole) (arg7 : Memref sig .tc .vmem S512x4096 .f32) (harg7 : arg7.IsWhole) (arg8 : Memref sig .tc .vmem S512x6400 .bf16) (harg8 : arg8.IsWhole) (arg9 : Memref sig .tc .vmem S512x6400 .bf16) (harg9 : arg9.IsWhole)
    (hc0 : k0_cond1 i = 1#1) (hc1 : ¬ k0_cond2 i = 1#1)
    (x0 : Vec F S128x6400 .f32) (x1 : Vec F S128x128 .f32) (x2 : Vec F S128x1 .i32) (x3 : Vec F S1x6400 .bf16) (x4 : Vec F S1024x6400 .fp8e4m3)
    (y : Vec F S512x4096 .f32) (s0 s1 : Vec F S512x6400 .bf16) :
    Σ' (L5 : List (View.Piece (Elt F) S512x4096 .f32)), { LS : List (View.Piece (Elt F) S512x6400 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y ∗ owns (c : Thread nD τ) arg8 fullShare s0 ∗ owns (c : Thread nD τ) arg9 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread y) L5) ∗ (arg8.view.loc (c : Thread nD τ) ↦[arg8.view.set]{fullShare} arg8.view.writes (Elt F) (harg8.unread s0) LS) ∗ owns (c : Thread nD τ) arg9 fullShare s1) -∗ K ⟨⟩))
          ⊢ wp frame (wpE (defs₀ (F := F)) Variants.none c none) E (cc0_grad i arg2 harg2 arg3 harg3 arg4 harg4 arg5 harg5 arg6 harg6 arg7 harg7 arg8 harg8 arg9 harg9) K } := by
  refine ⟨?_, ?_, fun E K => ?run⟩
  case run =>
    simp only [cc0_grad_eq_skeleton]; delta cc0_grad_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf8; obtain rfl := harg9.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [H8]; · iexact H8
    iexists _; isplitr; · ipureintro; exact harg9.read_unread _
    iexact H9

end Cert.Proof.GradRun

end
-- ==== Proof.GradRunB.lean ====
/-
  One run of the gradient kernel's body at a step of odd number: the tiles it stores into the scratch it fills, and the columns it
  stores into the output's block, found by running it.
-/
module

public import proofs.«01_k».proof.Proof.Gen.Grad.Frame
public import proofs.«01_k».proof.Proof.Gen.Grad.Skeleton
public import Idealize.ShloMosaic.Lib.Pipeline.Frame
public import Idealize.ShloMosaic.Lib.Tactic

@[expose] public section

set_option maxRecDepth 16384

noncomputable section

namespace Cert.Proof.GradRun

open Cert.Grad Cert.Grad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 8000000 in
/-- The body at a step of odd number, from the contents of every buffer: what it has stored when it ends, as pieces over what
    the two buffers held before. -/
noncomputable def runB (c : Dev nD) (i : grid0.Coords) (arg2 : Memref sig .tc .vmem S128x6400 .f32) (harg2 : arg2.IsWhole) (arg3 : Memref sig .tc .vmem S128x128 .f32) (harg3 : arg3.IsWhole) (arg4 : Memref sig .tc .vmem S128x1 .i32) (harg4 : arg4.IsWhole) (arg5 : Memref sig .tc .vmem S1x6400 .bf16) (harg5 : arg5.IsWhole) (arg6 : Memref sig .tc .vmem S1024x6400 .fp8e4m3) (harg6 : arg6.IsWhole) (arg7 : Memref sig .tc .vmem S512x4096 .f32) (harg7 : arg7.IsWhole) (arg8 : Memref sig .tc .vmem S512x6400 .bf16) (harg8 : arg8.IsWhole) (arg9 : Memref sig .tc .vmem S512x6400 .bf16) (harg9 : arg9.IsWhole)
    (hc0 : ¬ k0_cond1 i = 1#1) (hc1 : k0_cond2 i = 1#1)
    (x0 : Vec F S128x6400 .f32) (x1 : Vec F S128x128 .f32) (x2 : Vec F S128x1 .i32) (x3 : Vec F S1x6400 .bf16) (x4 : Vec F S1024x6400 .fp8e4m3)
    (y : Vec F S512x4096 .f32) (s0 s1 : Vec F S512x6400 .bf16) :
    Σ' (L5 : List (View.Piece (Elt F) S512x4096 .f32)), { LS : List (View.Piece (Elt F) S512x6400 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y ∗ owns (c : Thread nD τ) arg8 fullShare s0 ∗ owns (c : Thread nD τ) arg9 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread y) L5) ∗ owns (c : Thread nD τ) arg8 fullShare s0 ∗ (arg9.view.loc (c : Thread nD τ) ↦[arg9.view.set]{fullShare} arg9.view.writes (Elt F) (harg9.unread s1) LS)) -∗ K ⟨⟩))
          ⊢ wp frame (wpE (defs₀ (F := F)) Variants.none c none) E (cc0_grad i arg2 harg2 arg3 harg3 arg4 harg4 arg5 harg5 arg6 harg6 arg7 harg7 arg8 harg8 arg9 harg9) K } := by
  refine ⟨?_, ?_, fun E K => ?run⟩
  case run =>
    simp only [cc0_grad_eq_skeleton]; delta cc0_grad_skel
    simp only [k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf8; obtain rfl := harg9.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [H8]
    · iexists _; isplitr; · ipureintro; exact harg8.read_unread _
      iexact H8
    iexact H9

end Cert.Proof.GradRun

end
-- ==== Proof.GradFrame.lean ====
/-
  The frame of the gradient call (as printed): its body runs at every point, from any contents of the two scratch
  buffers and of the output's block; what it leaves in them is forgotten here.
-/
module

public import proofs.«01_k».proof.Proof.GradRunA
public import proofs.«01_k».proof.Proof.GradRunB

@[expose] public section

noncomputable section

namespace Cert.Proof.GradFrame

open Cert.Grad Cert.Grad.Gen Cert.Proof.GradRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

variable (m : (ℓ : Loc nD τ sig) → Buf (Elt F) ℓ) (ρ : Dev nD → PrngReg)

/-- The two scratch buffers, whole. -/
abbrev sc0 : Memref sig .tc .vmem S512x6400 .bf16 := Memref.whole cc0_scratch0
abbrev sc1 : Memref sig .tc .vmem S512x6400 .bf16 := Memref.whole cc0_scratch1

/-- At a step of even number the body takes its first branch and not its second. -/
theorem even_step : ∀ t : Fin cfg0.N, t.val / 4 % 2 = 0 → k0_cond1 (grid0.coords t) = 1#1 ∧ ¬ k0_cond2 (grid0.coords t) = 1#1 :=
  (by decide +kernel : ∀ t : Fin grid0.N, t.val / 4 % 2 = 0 → k0_cond1 (grid0.coords t) = 1#1 ∧ ¬ k0_cond2 (grid0.coords t) = 1#1)
/-- At a step of odd number the body takes its second branch and not its first. -/
theorem odd_step : ∀ t : Fin cfg0.N, ¬ t.val / 4 % 2 = 0 → ¬ k0_cond1 (grid0.coords t) = 1#1 ∧ k0_cond2 (grid0.coords t) = 1#1 :=
  (by decide +kernel : ∀ t : Fin grid0.N, ¬ t.val / 4 % 2 = 0 → ¬ k0_cond1 (grid0.coords t) = 1#1 ∧ k0_cond2 (grid0.coords t) = 1#1)

/-- What is held between points: both scratch buffers at some contents, and the generator register. -/
theorem held_eq (c : Dev nD) :
    (Pipeline.ΦA spec0 c : sProp (MT nD τ sig Unit (Elt F) ℕ (UR sig nD τ) ℕ))
      = iprop(((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The output's window is forgotten. -/
def forgets0 : Fin 6 → Bool := fun w => decide (w = 5)

/-- The proof data on a core: every input's block is left in place, and of the output nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at a point, window by window. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d))

/-- What it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d))

/-- A buffer held at given contents is owned at what its view reads there. -/
theorem owns_of_held {c : Dev nD} {s : Shape} {e : EltTy} (a : Memref sig .tc .vmem s e) (f : Buf (Elt F) (a.view.loc (c : Thread nD τ))) :
    (a.view.loc (c : Thread nD τ) ↦[a.view.set]{fullShare} f : sProp (MT nD τ sig Unit (Elt F) ℕ (UR sig nD τ) ℕ))
      ⊢ iprop(∃ d, owns (c : Thread nD τ) a fullShare d) := by
  unfold owns
  iintro H
  iexists _, f; isplitr; swap; · iexact H
  ipureintro; rfl

set_option maxHeartbeats 4000000 in
/-- The body at any point, by the number of the step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, after_0, after_1, after_2, after_3, after_4]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, held_eq]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%y, H5⟩⟩
  by_cases h : t.val / 4 % 2 = 0
  · iapply ((runA c (grid0.coords t) _ _ _ _ _ _ _ _ _ _ _ _ _ _ _ _ (even_step t h).1 (even_step t h).2
      (iblk m c 0 t) (iblk m c 1 t) (iblk m c 2 t) (iblk m c 3 t) (iblk m c 4 t) y s0 s1).2.2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitr [Hg]; swap; · iexact Hg
      isplitl [HS0]; · iapply (owns_of_held sc0 _); iexact HS0
      iexists _; iexact HS1
    isplitl [Ho]; · iexact Ho
    isplitl [H0]; · iexact H0
    isplitl [H1]; · iexact H1
    isplitl [H2]; · iexact H2
    isplitl [H3]; · iexact H3
    isplitl [H4]; · iexact H4
    iapply (owns_of_held _ _); iexact H5
  · iapply ((runB c (grid0.coords t) _ _ _ _ _ _ _ _ _ _ _ _ _ _ _ _ (odd_step t h).1 (odd_step t h).2
      (iblk m c 0 t) (iblk m c 1 t) (iblk m c 2 t) (iblk m c 3 t) (iblk m c 4 t) y s0 s1).2.2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitr [Hg]; swap; · iexact Hg
      isplitl [HS0]; · iexists _; iexact HS0
      iapply (owns_of_held sc1 _); iexact HS1
    isplitl [Ho]; · iexact Ho
    isplitl [H0]; · iexact H0
    isplitl [H1]; · iexact H1
    isplitl [H2]; · iexact H2
    isplitl [H3]; · iexact H3
    isplitl [H4]; · iexact H4
    iapply (owns_of_held _ _); iexact H5

/-- The body table's row at a point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- the theorem's implicit arguments are found by unifying its conclusion with this statement
set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input's array ends as the region found it, and any other unscoped buffer too. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have hin : ∀ r : PUnit × MemSt nD τ sig (Elt F),
      Pipeline.RDat.FramePost (cfgs 0) (fun c => (dats m 0 c).toRForget forgets0) (V m) r → ∀ (c : Dev nD) (w : Fin cfg0.W),
      (cfg0.win w).isOut = false → r.2.mem ((cfg0.spec w).arr.view.loc (c.tc : Thread nD τ)) = V m c (Pipeline.arrRef spec0 w) :=
    fun r h c w hw => (Pipeline.RDat.FramePostR.arr_in (R := ∅) (fun c => ⟨(h c).1, fun b hb => (h c).2 b (Finset.sdiff_subset hb)⟩) c w hw).trans (A_eq m c w)
  refine (θ_run defs _ _).mono (fun r h => ⟨fun c => ⟨?_, ?_, ?_, ?_, ?_⟩, h.2⟩) (run_main m ρ)
  · exact (hin r h.1 c 0 rfl).trans (V_main_arg0 m c)
  · exact (hin r h.1 c 1 rfl).trans (V_main_arg1 m c)
  · exact (hin r h.1 c 2 rfl).trans (V_main_arg2 m c)
  · exact (hin r h.1 c 4 rfl).trans (V_main_arg3 m c)
  · exact ((h.1 c).2 main_arg4 (Pipeline.mem_restRefs_of main_arg4 (by decide) (by decide))).trans (V_main_arg4 m c)

end Cert.Proof.GradFrame

end
-- ==== Proof.GradIdealRunA.lean ====
/-
  One run of the gradient kernel's body at a step of even number: the tiles it stores into the scratch it fills, and the columns it
  stores into the output's block, found by running it.
-/
module

public import proofs.«01_k».proof.Proof.Gen.GradIdeal.Frame
public import proofs.«01_k».proof.Proof.Gen.GradIdeal.Skeleton
public import Idealize.ShloMosaic.Lib.Pipeline.Frame
public import Idealize.ShloMosaic.Lib.Tactic

@[expose] public section

set_option maxRecDepth 16384

noncomputable section

namespace Cert.Proof.GradIdealRun

open Cert.GradIdeal Cert.GradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 8000000 in
/-- The body at a step of even number, from the contents of every buffer: what it has stored when it ends, as pieces over what
    the two buffers held before. -/
noncomputable def runA (c : Dev nD) (i : grid0.Coords) (arg2 : Memref sig .tc .vmem S128x6400 .f32) (harg2 : arg2.IsWhole) (arg3 : Memref sig .tc .vmem S128x128 .f32) (harg3 : arg3.IsWhole) (arg4 : Memref sig .tc .vmem S128x1 .i32) (harg4 : arg4.IsWhole) (arg5 : Memref sig .tc .vmem S1x6400 .bf16) (harg5 : arg5.IsWhole) (arg6 : Memref sig .tc .vmem S1024x6400 .fp8e4m3) (harg6 : arg6.IsWhole) (arg7 : Memref sig .tc .vmem S512x4096 .f32) (harg7 : arg7.IsWhole) (arg8 : Memref sig .tc .vmem S512x6400 .bf16) (harg8 : arg8.IsWhole) (arg9 : Memref sig .tc .vmem S512x6400 .bf16) (harg9 : arg9.IsWhole)
    (hc0 : k0_cond1 i = 1#1) (hc1 : ¬ k0_cond2 i = 1#1)
    (x0 : Vec F S128x6400 .f32) (x1 : Vec F S128x128 .f32) (x2 : Vec F S128x1 .i32) (x3 : Vec F S1x6400 .bf16) (x4 : Vec F S1024x6400 .fp8e4m3)
    (y : Vec F S512x4096 .f32) (s0 s1 : Vec F S512x6400 .bf16) :
    Σ' (L5 : List (View.Piece (Elt F) S512x4096 .f32)), { LS : List (View.Piece (Elt F) S512x6400 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y ∗ owns (c : Thread nD τ) arg8 fullShare s0 ∗ owns (c : Thread nD τ) arg9 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread y) L5) ∗ (arg8.view.loc (c : Thread nD τ) ↦[arg8.view.set]{fullShare} arg8.view.writes (Elt F) (harg8.unread s0) LS) ∗ owns (c : Thread nD τ) arg9 fullShare s1) -∗ K ⟨⟩))
          ⊢ wp frame (wpE (defs₀ (F := F)) Variants.none c none) E (cc0_grad i arg2 harg2 arg3 harg3 arg4 harg4 arg5 harg5 arg6 harg6 arg7 harg7 arg8 harg8 arg9 harg9) K } := by
  refine ⟨?_, ?_, fun E K => ?run⟩
  case run =>
    simp only [cc0_grad_eq_skeleton]; delta cc0_grad_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf8; obtain rfl := harg9.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [H8]; · iexact H8
    iexists _; isplitr; · ipureintro; exact harg9.read_unread _
    iexact H9

end Cert.Proof.GradIdealRun

end
-- ==== Proof.GradIdealRunB.lean ====
/-
  One run of the gradient kernel's body at a step of odd number: the tiles it stores into the scratch it fills, and the columns it
  stores into the output's block, found by running it.
-/
module

public import proofs.«01_k».proof.Proof.Gen.GradIdeal.Frame
public import proofs.«01_k».proof.Proof.Gen.GradIdeal.Skeleton
public import Idealize.ShloMosaic.Lib.Pipeline.Frame
public import Idealize.ShloMosaic.Lib.Tactic

@[expose] public section

set_option maxRecDepth 16384

noncomputable section

namespace Cert.Proof.GradIdealRun

open Cert.GradIdeal Cert.GradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 8000000 in
/-- The body at a step of odd number, from the contents of every buffer: what it has stored when it ends, as pieces over what
    the two buffers held before. -/
noncomputable def runB (c : Dev nD) (i : grid0.Coords) (arg2 : Memref sig .tc .vmem S128x6400 .f32) (harg2 : arg2.IsWhole) (arg3 : Memref sig .tc .vmem S128x128 .f32) (harg3 : arg3.IsWhole) (arg4 : Memref sig .tc .vmem S128x1 .i32) (harg4 : arg4.IsWhole) (arg5 : Memref sig .tc .vmem S1x6400 .bf16) (harg5 : arg5.IsWhole) (arg6 : Memref sig .tc .vmem S1024x6400 .fp8e4m3) (harg6 : arg6.IsWhole) (arg7 : Memref sig .tc .vmem S512x4096 .f32) (harg7 : arg7.IsWhole) (arg8 : Memref sig .tc .vmem S512x6400 .bf16) (harg8 : arg8.IsWhole) (arg9 : Memref sig .tc .vmem S512x6400 .bf16) (harg9 : arg9.IsWhole)
    (hc0 : ¬ k0_cond1 i = 1#1) (hc1 : k0_cond2 i = 1#1)
    (x0 : Vec F S128x6400 .f32) (x1 : Vec F S128x128 .f32) (x2 : Vec F S128x1 .i32) (x3 : Vec F S1x6400 .bf16) (x4 : Vec F S1024x6400 .fp8e4m3)
    (y : Vec F S512x4096 .f32) (s0 s1 : Vec F S512x6400 .bf16) :
    Σ' (L5 : List (View.Piece (Elt F) S512x4096 .f32)), { LS : List (View.Piece (Elt F) S512x6400 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y ∗ owns (c : Thread nD τ) arg8 fullShare s0 ∗ owns (c : Thread nD τ) arg9 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread y) L5) ∗ owns (c : Thread nD τ) arg8 fullShare s0 ∗ (arg9.view.loc (c : Thread nD τ) ↦[arg9.view.set]{fullShare} arg9.view.writes (Elt F) (harg9.unread s1) LS)) -∗ K ⟨⟩))
          ⊢ wp frame (wpE (defs₀ (F := F)) Variants.none c none) E (cc0_grad i arg2 harg2 arg3 harg3 arg4 harg4 arg5 harg5 arg6 harg6 arg7 harg7 arg8 harg8 arg9 harg9) K } := by
  refine ⟨?_, ?_, fun E K => ?run⟩
  case run =>
    simp only [cc0_grad_eq_skeleton]; delta cc0_grad_skel
    simp only [k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf8; obtain rfl := harg9.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [H8]
    · iexists _; isplitr; · ipureintro; exact harg8.read_unread _
      iexact H8
    iexact H9

end Cert.Proof.GradIdealRun

end
-- ==== Proof.GradIdealFrame.lean ====
/-
  The frame of the gradient call (at the extended reals and at any other values): its body runs at every point, from any contents of the two scratch
  buffers and of the output's block; what it leaves in them is forgotten here.
-/
module

public import proofs.«01_k».proof.Proof.GradIdealRunA
public import proofs.«01_k».proof.Proof.GradIdealRunB

@[expose] public section

noncomputable section

namespace Cert.Proof.GradIdealFrame

open Cert.GradIdeal Cert.GradIdeal.Gen Cert.Proof.GradIdealRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

variable (m : (ℓ : Loc nD τ sig) → Buf (Elt F) ℓ) (ρ : Dev nD → PrngReg)

/-- The two scratch buffers, whole. -/
abbrev sc0 : Memref sig .tc .vmem S512x6400 .bf16 := Memref.whole cc0_scratch0
abbrev sc1 : Memref sig .tc .vmem S512x6400 .bf16 := Memref.whole cc0_scratch1

/-- At a step of even number the body takes its first branch and not its second. -/
theorem even_step : ∀ t : Fin cfg0.N, t.val / 4 % 2 = 0 → k0_cond1 (grid0.coords t) = 1#1 ∧ ¬ k0_cond2 (grid0.coords t) = 1#1 :=
  (by decide +kernel : ∀ t : Fin grid0.N, t.val / 4 % 2 = 0 → k0_cond1 (grid0.coords t) = 1#1 ∧ ¬ k0_cond2 (grid0.coords t) = 1#1)
/-- At a step of odd number the body takes its second branch and not its first. -/
theorem odd_step : ∀ t : Fin cfg0.N, ¬ t.val / 4 % 2 = 0 → ¬ k0_cond1 (grid0.coords t) = 1#1 ∧ k0_cond2 (grid0.coords t) = 1#1 :=
  (by decide +kernel : ∀ t : Fin grid0.N, ¬ t.val / 4 % 2 = 0 → ¬ k0_cond1 (grid0.coords t) = 1#1 ∧ k0_cond2 (grid0.coords t) = 1#1)

/-- What is held between points: both scratch buffers at some contents, and the generator register. -/
theorem held_eq (c : Dev nD) :
    (Pipeline.ΦA spec0 c : sProp (MT nD τ sig Unit (Elt F) ℕ (UR sig nD τ) ℕ))
      = iprop(((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The output's window is forgotten. -/
def forgets0 : Fin 6 → Bool := fun w => decide (w = 5)

/-- The proof data on a core: every input's block is left in place, and of the output nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at a point, window by window. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d))

/-- What it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d))

/-- A buffer held at given contents is owned at what its view reads there. -/
theorem owns_of_held {c : Dev nD} {s : Shape} {e : EltTy} (a : Memref sig .tc .vmem s e) (f : Buf (Elt F) (a.view.loc (c : Thread nD τ))) :
    (a.view.loc (c : Thread nD τ) ↦[a.view.set]{fullShare} f : sProp (MT nD τ sig Unit (Elt F) ℕ (UR sig nD τ) ℕ))
      ⊢ iprop(∃ d, owns (c : Thread nD τ) a fullShare d) := by
  unfold owns
  iintro H
  iexists _, f; isplitr; swap; · iexact H
  ipureintro; rfl

set_option maxHeartbeats 4000000 in
/-- The body at any point, by the number of the step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, after_0, after_1, after_2, after_3, after_4]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, held_eq]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%y, H5⟩⟩
  by_cases h : t.val / 4 % 2 = 0
  · iapply ((runA c (grid0.coords t) _ _ _ _ _ _ _ _ _ _ _ _ _ _ _ _ (even_step t h).1 (even_step t h).2
      (iblk m c 0 t) (iblk m c 1 t) (iblk m c 2 t) (iblk m c 3 t) (iblk m c 4 t) y s0 s1).2.2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitr [Hg]; swap; · iexact Hg
      isplitl [HS0]; · iapply (owns_of_held sc0 _); iexact HS0
      iexists _; iexact HS1
    isplitl [Ho]; · iexact Ho
    isplitl [H0]; · iexact H0
    isplitl [H1]; · iexact H1
    isplitl [H2]; · iexact H2
    isplitl [H3]; · iexact H3
    isplitl [H4]; · iexact H4
    iapply (owns_of_held _ _); iexact H5
  · iapply ((runB c (grid0.coords t) _ _ _ _ _ _ _ _ _ _ _ _ _ _ _ _ (odd_step t h).1 (odd_step t h).2
      (iblk m c 0 t) (iblk m c 1 t) (iblk m c 2 t) (iblk m c 3 t) (iblk m c 4 t) y s0 s1).2.2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitr [Hg]; swap; · iexact Hg
      isplitl [HS0]; · iexists _; iexact HS0
      iapply (owns_of_held sc1 _); iexact HS1
    isplitl [Ho]; · iexact Ho
    isplitl [H0]; · iexact H0
    isplitl [H1]; · iexact H1
    isplitl [H2]; · iexact H2
    isplitl [H3]; · iexact H3
    isplitl [H4]; · iexact H4
    iapply (owns_of_held _ _); iexact H5

/-- The body table's row at a point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- the theorem's implicit arguments are found by unifying its conclusion with this statement
set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input's array ends as the region found it, and any other unscoped buffer too. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have hin : ∀ r : PUnit × MemSt nD τ sig (Elt F),
      Pipeline.RDat.FramePost (cfgs 0) (fun c => (dats m 0 c).toRForget forgets0) (V m) r → ∀ (c : Dev nD) (w : Fin cfg0.W),
      (cfg0.win w).isOut = false → r.2.mem ((cfg0.spec w).arr.view.loc (c.tc : Thread nD τ)) = V m c (Pipeline.arrRef spec0 w) :=
    fun r h c w hw => (Pipeline.RDat.FramePostR.arr_in (R := ∅) (fun c => ⟨(h c).1, fun b hb => (h c).2 b (Finset.sdiff_subset hb)⟩) c w hw).trans (A_eq m c w)
  refine (θ_run defs _ _).mono (fun r h => ⟨fun c => ⟨?_, ?_, ?_, ?_, ?_⟩, h.2⟩) (run_main m ρ)
  · exact (hin r h.1 c 0 rfl).trans (V_main_arg0 m c)
  · exact (hin r h.1 c 1 rfl).trans (V_main_arg1 m c)
  · exact (hin r h.1 c 2 rfl).trans (V_main_arg2 m c)
  · exact (hin r h.1 c 4 rfl).trans (V_main_arg3 m c)
  · exact ((h.1 c).2 main_arg4 (Pipeline.mem_restRefs_of main_arg4 (by decide) (by decide))).trans (V_main_arg4 m c)

end Cert.Proof.GradIdealFrame

end
-- ==== Proof.GradTiles.lean ====
/-
  The tiles the gradient kernel's body stores, in one form: a point quantises 128 rows by 6400 columns, 32 rows by 128 columns at a
  time, and every tile is the same function of the blocks at its own offsets.
-/
module

public import proofs.«01_k».proof.Proof.GradIdealRunA
public import proofs.«01_k».proof.Proof.GradIdealRunB

@[expose] public section

set_option maxRecDepth 16384

noncomputable section

namespace Cert.Proof.GradTiles

open Cert.GradIdeal Cert.GradIdeal.Gen Cert.Proof.GradIdealRun
open Idealize.ShloMosaic Idealize.ShloMosaic.TcCoe

variable {F : FTy → Type} [FloatOps F]

/-- The offsets of a tile in the scratch: the point's band of rows and `b` more, and the column `o`. -/
def offs (i : grid0.Coords) (b : BitVec 32) (o : Nat) : Fin 2 → Nat :=
  ![(Scalar.indexCast (Scalar.addi (Scalar.muli (BitVec.ofNat 32 (i 1).val) 128#32) b)).toNat, o]

theorem offs_row (i : grid0.Coords) (g : Nat) (hg : g < 4) (o : Nat) : offs i (BitVec.ofNat 32 (32 * g)) o 0 = 128 * (i 1).val + 32 * g := by
  have e : ∀ n g : Fin 4, (Scalar.indexCast (Scalar.addi (Scalar.muli (BitVec.ofNat 32 n.val) 128#32) (BitVec.ofNat 32 (32 * g.val)))).toNat
      = 128 * n.val + 32 * g.val := by decide
  exact e ⟨(i 1).val, (i 1).isLt⟩ ⟨g, hg⟩

theorem offs_inb (i : grid0.Coords) (k : Nat) :
    ∀ a, offs i (BitVec.ofNat 32 (32 * (k / 50 % 4))) (128 * (k % 50)) a + S32x128.size a ≤ S512x6400.size a := by
  have h1 : (i 1).val < 4 := (i 1).isLt
  intro a
  fin_cases a
  · have := offs_row i (k / 50 % 4) (Nat.mod_lt _ (by decide)) (128 * (k % 50))
    change offs i _ _ 0 + 32 ≤ 512
    rw [this]; omega
  · change 128 * (k % 50) + 128 ≤ 6400
    omega

theorem rows_inb (k : Nat) {w : Nat} : ∀ a, ![32 * (k / 50 % 4), 0] a + (⟨2, ![32, w]⟩ : Shape).size a ≤ (⟨2, ![128, w]⟩ : Shape).size a := by
  intro a; fin_cases a
  · change 32 * (k / 50 % 4) + 32 ≤ 128; omega
  · change 0 + w ≤ w; omega
theorem tile_inb (k : Nat) : ∀ a, ![32 * (k / 50 % 4), 128 * (k % 50)] a + S32x128.size a ≤ S128x6400.size a := by
  intro a; fin_cases a
  · change 32 * (k / 50 % 4) + 32 ≤ 128; omega
  · change 128 * (k % 50) + 128 ≤ 6400; omega
theorem cols_inb (k : Nat) : ∀ a, ![0, 128 * (k % 50)] a + S1x128.size a ≤ S1x6400.size a := by
  intro a; fin_cases a
  · change 0 + 1 ≤ 1; omega
  · change 128 * (k % 50) + 128 ≤ 6400; omega

theorem slices_lane (l : Nat) (h : l < 128) : S32x128.Slices ![0, l] S32x1 :=
  ⟨rfl, fun a => by
    fin_cases a
    · change 0 + 32 ≤ 32; omega
    · change l + 1 ≤ 128; omega⟩

/-- A lane of the statistics, one number for each row. -/
def lane (st : FVec F S32x128 .f32) (l : Nat) (h : l < 128) : FVec F S32x1 .f32 := extractStridedSlice S32x1 ![0, l] st (slices_lane l h)

/-- The same number in every column of a row. -/
def wide (d : FVec F S32x1 .f32) : FVec F S32x128 .f32 := broadcastTo S32x128 (shapeCast S32x1 d shapeCasts_S32x1_S32x1) broadcasts_S32x1_S32x128

/-- The number of each element's column. -/
def colNo : IVec S32x128 32 := iota .tc S32x128 32 [1] iota_S32x128_d1_w32

/-- The vocabulary chunk of column `x` of a block. -/
def chunkOf (x : Nat) : Fin 4 := ⟨x / 1600 % 4, Nat.mod_lt _ (by decide)⟩

/-- One number for each column, by the chunk that the column is in: tiles at `o` whose columns lie in one chunk have one, those that
    straddle two chunks choose between two. `one` spreads a single number over the columns. -/
def byChunk (one : FVec F S32x1 .f32 → FVec F S32x128 .f32) (f : Fin 4 → FVec F S32x1 .f32) (o : Nat) : FVec F S32x128 .f32 :=
  match o / 1600 == (o + 127) / 1600 with
  | true => one (f (chunkOf o))
  | false => select (cmpi .slt colNo (broadcast S32x128 64#32)) (wide (f (chunkOf o))) (wide (f (chunkOf (o + 127))))

/-- A tile at column `o` of the block: from the block's logits, row statistics, labels and column scales there. -/
def tile (v0 : BitVec 32) (o : Nat) (lg : Vec F S32x128 .f32) (st : Vec F S32x128 .f32) (lb : Vec F S32x1 .i32) (wv : Vec F S1x128 .bf16) : FVec F S32x128 .bf16 :=
  shapeCast S32x128
    (mulf
      (mulf
        (extf .bf16 (truncf .fp8e5m2
          (minimumf (broadcast S32x128 (Scalar.ofBits .f32 0x47600000#32)) (maximumf (broadcast S32x128 (Scalar.ofBits .f32 0xC7600000#32))
            (mulf
              (subf (mulf (exp (subf lg (broadcastTo S32x128 (k0_pay1 st) broadcasts_S32x1_S32x128))) (broadcastTo S32x128 (k0_pay2 st) broadcasts_S32x1_S32x128))
                (select (cmpi .eq colNo (broadcastTo S32x128 (subi (k0_pay4 v0 lb) (broadcast S32x1 (BitVec.ofNat 32 o))) broadcasts_S32x1_S32x128))
                  (broadcast S32x128 (Scalar.ofBits .f32 0x3F800000#32)) (broadcast S32x128 (Scalar.ofBits .f32 0x00000000#32))))
              (byChunk (fun d => broadcastTo S32x128 d broadcasts_S32x1_S32x128) (fun c => mulf (lane (k0_pay5 v0 st) c.val (lt_trans c.isLt (by decide))) (k0_pay3 st)) o))))
          bitsLt_fp8e5m2_f32) bitsLt_fp8e5m2_bf16)
        (truncf .bf16 (byChunk wide (fun c => lane (k0_pay5 v0 st) (32 + c.val) (lt_trans (Nat.add_lt_add_left c.isLt 32) (by decide))) o) bitsLt_bf16_f32))
      (broadcastTo S32x128 (shapeCast S1x128 wv shapeCasts_S1x128_S1x128) broadcasts_S1x128_S32x128))
    shapeCasts_S32x128_S32x128

/-- The column block of a step, as the kernel computes it. -/
def blockNo (i : grid0.Coords) : BitVec 32 := Scalar.remsi (BitVec.ofNat 32 (i 0).val) 5#32

section
variable (i : grid0.Coords) (arg2 : Memref sig .tc .vmem S128x6400 .f32) (harg2 : arg2.IsWhole) (arg3 : Memref sig .tc .vmem S128x128 .f32) (harg3 : arg3.IsWhole)
    (arg4 : Memref sig .tc .vmem S128x1 .i32) (harg4 : arg4.IsWhole) (arg5 : Memref sig .tc .vmem S1x6400 .bf16) (harg5 : arg5.IsWhole)
    (x0 : Vec F S128x6400 .f32) (x1 : Vec F S128x128 .f32) (x2 : Vec F S128x1 .i32) (x3 : Vec F S1x6400 .bf16)

/-- The `k`-th tile a point stores, as a piece of the scratch. -/
def piece (k : Nat) : View.Piece (Elt F) S512x6400 .bf16 :=
  ⟨Rect.unit (s := S512x6400) (offs i (BitVec.ofNat 32 (32 * (k / 50 % 4))) (128 * (k % 50))) S32x128.size (offs_inb i k),
    tile (blockNo i) (128 * (k % 50))
      (View.readAt (Elt F) arg2.view (Rect.unit (s := S128x6400) ![32 * (k / 50 % 4), 128 * (k % 50)] S32x128.size (tile_inb k)).toLoadRect (harg2.unread x0))
      (View.readAt (Elt F) arg3.view (Rect.unit (s := S128x128) ![32 * (k / 50 % 4), 0] S32x128.size (rows_inb k)).toLoadRect (harg3.unread x1))
      (View.readAt (Elt F) arg4.view (Rect.unit (s := S128x1) ![32 * (k / 50 % 4), 0] S32x1.size (rows_inb k)).toLoadRect (harg4.unread x2))
      (View.readAt (Elt F) arg5.view (Rect.unit (s := S1x6400) ![0, 128 * (k % 50)] S1x128.size (cols_inb k)).toLoadRect (harg5.unread x3))⟩

/-- The first `n` tiles, the last one stored in front. -/
def pieces : Nat → List (View.Piece (Elt F) S512x6400 .bf16)
  | 0 => []
  | n + 1 => piece i arg2 harg2 arg3 harg3 arg4 harg4 arg5 harg5 x0 x1 x2 x3 n :: pieces n
end

/-- The tiles a run at a step of even number stores. -/
theorem runA_pieces (c : Dev nD) (i : grid0.Coords) (arg2 : Memref sig .tc .vmem S128x6400 .f32) (harg2 : arg2.IsWhole) (arg3 : Memref sig .tc .vmem S128x128 .f32) (harg3 : arg3.IsWhole) (arg4 : Memref sig .tc .vmem S128x1 .i32) (harg4 : arg4.IsWhole) (arg5 : Memref sig .tc .vmem S1x6400 .bf16) (harg5 : arg5.IsWhole) (arg6 : Memref sig .tc .vmem S1024x6400 .fp8e4m3) (harg6 : arg6.IsWhole) (arg7 : Memref sig .tc .vmem S512x4096 .f32) (harg7 : arg7.IsWhole) (arg8 : Memref sig .tc .vmem S512x6400 .bf16) (harg8 : arg8.IsWhole) (arg9 : Memref sig .tc .vmem S512x6400 .bf16) (harg9 : arg9.IsWhole)
    (hc0 : k0_cond1 i = 1#1) (hc1 : ¬ k0_cond2 i = 1#1)
    (x0 : Vec F S128x6400 .f32) (x1 : Vec F S128x128 .f32) (x2 : Vec F S128x1 .i32) (x3 : Vec F S1x6400 .bf16) (x4 : Vec F S1024x6400 .fp8e4m3)
    (y : Vec F S512x4096 .f32) (s0 s1 : Vec F S512x6400 .bf16) :
    (runA c i arg2 harg2 arg3 harg3 arg4 harg4 arg5 harg5 arg6 harg6 arg7 harg7 arg8 harg8 arg9 harg9 hc0 hc1 x0 x1 x2 x3 x4 y s0 s1).2.1
      = pieces i arg2 harg2 arg3 harg3 arg4 harg4 arg5 harg5 x0 x1 x2 x3 200 := by
  delta runA
  dsimp only
  rfl

/-- The tiles a run at a step of odd number stores. -/
theorem runB_pieces (c : Dev nD) (i : grid0.Coords) (arg2 : Memref sig .tc .vmem S128x6400 .f32) (harg2 : arg2.IsWhole) (arg3 : Memref sig .tc .vmem S128x128 .f32) (harg3 : arg3.IsWhole) (arg4 : Memref sig .tc .vmem S128x1 .i32) (harg4 : arg4.IsWhole) (arg5 : Memref sig .tc .vmem S1x6400 .bf16) (harg5 : arg5.IsWhole) (arg6 : Memref sig .tc .vmem S1024x6400 .fp8e4m3) (harg6 : arg6.IsWhole) (arg7 : Memref sig .tc .vmem S512x4096 .f32) (harg7 : arg7.IsWhole) (arg8 : Memref sig .tc .vmem S512x6400 .bf16) (harg8 : arg8.IsWhole) (arg9 : Memref sig .tc .vmem S512x6400 .bf16) (harg9 : arg9.IsWhole)
    (hc0 : ¬ k0_cond1 i = 1#1) (hc1 : k0_cond2 i = 1#1)
    (x0 : Vec F S128x6400 .f32) (x1 : Vec F S128x128 .f32) (x2 : Vec F S128x1 .i32) (x3 : Vec F S1x6400 .bf16) (x4 : Vec F S1024x6400 .fp8e4m3)
    (y : Vec F S512x4096 .f32) (s0 s1 : Vec F S512x6400 .bf16) :
    (runB c i arg2 harg2 arg3 harg3 arg4 harg4 arg5 harg5 arg6 harg6 arg7 harg7 arg8 harg8 arg9 harg9 hc0 hc1 x0 x1 x2 x3 x4 y s0 s1).2.1
      = pieces i arg2 harg2 arg3 harg3 arg4 harg4 arg5 harg5 x0 x1 x2 x3 200 := by
  delta runB
  dsimp only
  rfl

end Cert.Proof.GradTiles

end
-- ==== Proof.GradCell.lean ====
/-
  The numbers of the gradient's tiles at the extended reals: a tile's element, from the numbers of its row and its column.
-/
module

public import proofs.«01_k».proof.Proof.GradTiles
public import Idealize.ShloMosaic.Lib.Pointwise
public import Idealize.ShloMosaic.Lib.KernelVsHost
public import Idealize.ShloMosaic.Lib.WholeRead
public import Idealize.ShloMosaic.Lib.WordCmp
public import Idealize.ShloMosaic.Lib.Pipeline.ValueKit

@[expose] public section

set_option maxRecDepth 16384

noncomputable section

namespace Cert.Proof.GradCell

open Cert.GradIdeal Cert.GradIdeal.Gen Cert.Proof.GradIdealRun Cert.Proof.GradTiles
open Idealize.ShloMosaic Idealize.ShloMosaic.TcCoe

/-- One where the label is the column, zero elsewhere. -/
def hot (b : Prop) [Decidable b] : EReal := if b then Ideal.ofBits .f32 0x3F800000#32 else Ideal.ofBits .f32 0x00000000#32

/-- One element: the difference of probability and label, scaled down, clipped, and scaled up by its row and by its column. -/
def cell (l mx inv coef dn up ws h : EReal) : EReal :=
  min (Ideal.ofBits .f32 0x47600000#32) (max (Ideal.ofBits .f32 0xC7600000#32) ((Ideal.exp (l - mx) * inv - h) * (dn * coef))) * up * ws

/-- A column spread over a tile, at an index. -/
theorem bcol {α : Type} (v : S32x1.Idx → α) (x : S32x128.Idx) : broadcastTo S32x128 v broadcasts_S32x1_S32x128 x = v (ix2 (x 0) 0) :=
  broadcastTo_apply v _ x (ix2 (x 0) 0) (by intro a; fin_cases a <;> rfl)
/-- A row spread over a tile, at an index. -/
theorem brow {α : Type} (v : S1x128.Idx → α) (x : S32x128.Idx) : broadcastTo S32x128 v broadcasts_S1x128_S32x128 x = v (ix2 0 (x 1)) :=
  broadcastTo_apply v _ x (ix2 0 (x 1)) (by intro a; fin_cases a <;> rfl)

theorem wide_apply (d : FVec Ideal S32x1 .f32) (x : S32x128.Idx) : wide d x = d (ix2 (x 0) 0) := by
  unfold wide
  rw [shapeCast_self]
  exact bcol d x

/-- A lane of the rotated statistics is the lane of the statistics four further on for each block. -/
theorem lane_rot (jb : Nat) (hj : jb < 5) (st : FVec Ideal S32x128 .f32) (l : Nat) (h : l < 128) (hl : l < 64) (r : Fin 32) :
    lane (k0_pay5 (BitVec.ofNat 32 jb) st) l h (ix2 r 0) = st (ix2 r ⟨4 * jb + l, by omega⟩) := by
  unfold lane
  refine (extractStridedSlice_apply _ _ _ (ix2 r 0) (ix2 r ⟨l, h⟩) (by intro a; fin_cases a <;> first | exact (Nat.zero_add _).symm | rfl)).trans ?_
  unfold k0_pay5
  dsimp only
  refine dynamicRotate_apply (s := S32x128) 1 _ st _ (ix2 r ⟨l, h⟩) _ ?_
  have e : ∀ j : Fin 5, (Scalar.subi 128#32 (Scalar.muli (BitVec.ofNat 32 j.val) 4#32)).toNat = 128 - 4 * j.val := by decide
  intro b
  fin_cases b
  · rfl
  · change 4 * jb + l = (l + 128 - (Scalar.subi 128#32 (Scalar.muli (BitVec.ofNat 32 jb) 4#32)).toNat % 128) % 128
    rw [e ⟨jb, hj⟩]
    change 4 * jb + l = (l + 128 - (128 - 4 * jb) % 128) % 128
    omega

theorem pay_lane (st : FVec Ideal S32x128 .f32) (l : Nat) (h : l < 128) (r : Fin 32) : lane st l h (ix2 r 0) = st (ix2 r ⟨l, h⟩) :=
  extractStridedSlice_apply _ _ _ (ix2 r 0) (ix2 r ⟨l, h⟩) (by intro a; fin_cases a <;> first | exact (Nat.zero_add _).symm | rfl)

/-- The number of a column's chunk. -/
theorem byChunk_apply (one : FVec Ideal S32x1 .f32 → FVec Ideal S32x128 .f32) (h1 : ∀ d x, one d x = d (ix2 (x 0) 0))
    (f : Fin 4 → FVec Ideal S32x1 .f32) (q : Nat) (hq : q < 50) (x : S32x128.Idx) :
    byChunk one f (128 * q) x = f (chunkOf (128 * q + (x 1).val)) (ix2 (x 0) 0) := by
  have hx : (x 1).val < 128 := (x 1).isLt
  unfold byChunk
  by_cases hs : (128 * q) / 1600 = (128 * q + 127) / 1600
  · rw [show (128 * q / 1600 == (128 * q + 127) / 1600) = true from by simpa using hs]
    dsimp only
    rw [h1]
    have : chunkOf (128 * q) = chunkOf (128 * q + (x 1).val) := by
      unfold chunkOf; apply Fin.ext; change _ % 4 = _ % 4; congr 1; omega
    rw [this]
  · rw [show (128 * q / 1600 == (128 * q + 127) / 1600) = false from by simpa using hs]
    dsimp only
    have h64 : (128 * q / 1600 + 1) * 1600 = 128 * q + 64 := by omega
    change Scalar.select (IntOp.cmpi .slt (BitVec.ofNat 32 (0 * 128 + (x 1).val)) 64#32) _ _ = _
    have hc : ∀ n : Fin 128, IntOp.cmpi .slt (BitVec.ofNat 32 (0 * 128 + n.val)) 64#32 = if n.val < 64 then 1#1 else 0#1 := by decide
    have := hc ⟨(x 1).val, hx⟩
    change IntOp.cmpi .slt (BitVec.ofNat 32 (0 * 128 + (x 1).val)) 64#32 = if (x 1).val < 64 then 1#1 else 0#1 at this
    rw [this, wide_apply, wide_apply]
    by_cases hlt : (x 1).val < 64
    · rw [if_pos hlt]
      have : chunkOf (128 * q) = chunkOf (128 * q + (x 1).val) := by
        unfold chunkOf; apply Fin.ext; change _ % 4 = _ % 4; congr 1; omega
      rw [← this]; rfl
    · rw [if_neg hlt]
      have : chunkOf (128 * q + 127) = chunkOf (128 * q + (x 1).val) := by
        unfold chunkOf; apply Fin.ext; change _ % 4 = _ % 4; congr 1; omega
      rw [← this]; rfl

theorem hot_apply (jb q : Nat) (hj : jb < 5) (hq : q < 50) (c : Nat) (hc : c < 128) (lb : BitVec 32) :
    Scalar.select (IntOp.cmpi .eq (BitVec.ofNat 32 (0 * 128 + c)) (lb - BitVec.ofNat 32 jb * 6400#32 - BitVec.ofNat 32 (128 * q)))
      (Ideal.ofBits .f32 0x3F800000#32) (Ideal.ofBits .f32 0x00000000#32)
      = hot (lb = BitVec.ofNat 32 (6400 * jb + (128 * q + c))) := by
  have e : (BitVec.ofNat 32 (0 * 128 + c) = lb - BitVec.ofNat 32 jb * 6400#32 - BitVec.ofNat 32 (128 * q)) ↔ lb = BitVec.ofNat 32 (6400 * jb + (128 * q + c)) := by
    constructor
    · intro h
      apply BitVec.eq_of_toNat_eq
      have := congrArg BitVec.toNat h
      simp only [BitVec.toNat_ofNat, BitVec.toNat_sub, BitVec.toNat_mul] at this ⊢
      have := lb.isLt
      omega
    · intro h
      subst h
      apply BitVec.eq_of_toNat_eq
      simp only [BitVec.toNat_ofNat, BitVec.toNat_sub, BitVec.toNat_mul]
      omega
  unfold hot
  by_cases h : lb = BitVec.ofNat 32 (6400 * jb + (128 * q + c))
  · rw [if_pos h, ← e.2 h]
    simp [IntOp.cmpi, Scalar.select]
  · rw [if_neg h]
    have : ¬ (BitVec.ofNat 32 (0 * 128 + c) = lb - BitVec.ofNat 32 jb * 6400#32 - BitVec.ofNat 32 (128 * q)) := fun h' => h (e.1 h')
    have h2 : (BitVec.ofNat 32 (0 * 128 + c) == lb - BitVec.ofNat 32 jb * 6400#32 - BitVec.ofNat 32 (128 * q)) = false := beq_eq_false_iff_ne.2 this
    simp only [IntOp.cmpi, h2]
    rfl

/-- The chunk's scale lanes. -/
def dnLane (jb v : Nat) : Fin 128 := ⟨(4 * jb + v / 1600 % 4) % 32, by omega⟩
def upLane (jb v : Nat) : Fin 128 := ⟨32 + (4 * jb + v / 1600 % 4) % 32, by omega⟩

/-- A tile's element. -/
theorem tile_apply (jb : Nat) (hj : jb < 5) (q : Nat) (hq : q < 50) (lg : Vec Ideal S32x128 .f32) (st : Vec Ideal S32x128 .f32) (lb : Vec Ideal S32x1 .i32)
    (wv : Vec Ideal S1x128 .bf16) (x : S32x128.Idx) :
    tile (F := Ideal) (BitVec.ofNat 32 jb) (128 * q) lg st lb wv x
      = cell (lg x) (st (ix2 (x 0) 64)) (st (ix2 (x 0) 65)) (st (ix2 (x 0) 66)) (st (ix2 (x 0) (dnLane jb (128 * q + (x 1).val))))
          (st (ix2 (x 0) (upLane jb (128 * q + (x 1).val)))) (wv (ix2 0 (x 1))) (hot (lb (ix2 (x 0) 0) = BitVec.ofNat 32 (6400 * jb + (128 * q + (x 1).val)))) := by
  have hx : (x 1).val < 128 := (x 1).isLt
  unfold tile
  rw [shapeCast_self]
  unfold cell
  refine congrArg₂ (· * ·) (congrArg₂ (· * ·) ?_ ?_) ?_
  · refine congrArg₂ (min : EReal → EReal → EReal) rfl (congrArg₂ (max : EReal → EReal → EReal) rfl (congrArg₂ (· * ·) (congrArg₂ (· - ·) (congrArg₂ (· * ·) ?_ ?_) ?_) ?_))
    · change Ideal.exp (lg x - broadcastTo S32x128 (k0_pay1 st) broadcasts_S32x1_S32x128 x) = _
      rw [bcol]
      exact congrArg (fun z => Ideal.exp (lg x - z)) (pay_lane st 64 (by decide) (x 0))
    · refine (bcol _ x).trans (pay_lane st 65 (by decide) (x 0))
    · change Scalar.select (IntOp.cmpi .eq (BitVec.ofNat 32 (0 * 128 + (x 1).val)) (broadcastTo S32x128 (subi (k0_pay4 (BitVec.ofNat 32 jb) lb) (broadcast S32x1 (BitVec.ofNat 32 (128 * q)))) broadcasts_S32x1_S32x128 x)) _ _ = _
      rw [bcol]
      exact hot_apply jb q hj hq _ hx (lb (ix2 (x 0) 0))
    · refine (byChunk_apply _ (fun d x => bcol d x) _ q hq x).trans ?_
      refine congrArg₂ (· * ·) ((lane_rot jb hj st _ _ (by have := (chunkOf (128 * q + (x 1).val)).isLt; omega) (x 0)).trans ?_) (pay_lane st 66 (by decide) (x 0))
      congr 2
      apply Fin.ext
      change 4 * jb + (128 * q + (x 1).val) / 1600 % 4 = (4 * jb + (128 * q + (x 1).val) / 1600 % 4) % 32
      omega
  · refine (ValueIdx.truncf_apply (s := S32x128) (φ := .f32) (ψ := .bf16) _ bitsLt_bf16_f32 x).trans ((byChunk_apply _ wide_apply _ q hq x).trans ?_)
    refine (lane_rot jb hj st _ _ (by have := (chunkOf (128 * q + (x 1).val)).isLt; omega) (x 0)).trans ?_
    congr 2
    apply Fin.ext
    change 4 * jb + (32 + (128 * q + (x 1).val) / 1600 % 4) = 32 + (4 * jb + (128 * q + (x 1).val) / 1600 % 4) % 32
    omega
  · refine (brow _ x).trans ?_
    rw [shapeCast_self]

end Cert.Proof.GradCell

end
-- ==== Proof.GradStore.lean ====
/-
  What a point of the gradient call leaves in the scratch buffer that it fills, and in the output's block, at the extended reals.
-/
module

public import proofs.«01_k».proof.Proof.GradCell

@[expose] public section

set_option maxRecDepth 16384

noncomputable section

namespace Cert.Proof.GradStore

open Cert.GradIdeal Cert.GradIdeal.Gen Cert.Proof.GradIdealRun Cert.Proof.GradTiles Cert.Proof.GradCell
open Idealize.ShloMosaic Idealize.ShloMosaic.TcCoe
open Idealize.ShloMosaic.ValueIdx (contrEquiv1 contrEquiv1_symm_val)

section Read
variable {Val : EltTy → Type} {κ : Kind} {sp : Space} {s : Shape} {e : EltTy} (v : View sig κ sp s e) (f : v.ty.Contents Val)

/-- An element that no piece covers keeps what it held. -/
theorem read_of_not_mem (y : s.Idx) : ∀ L : List (View.Piece Val s e), (∀ p ∈ L, y ∉ p.1.set) → v.read Val (v.writes Val f L) y = v.read Val f y
  | [], _ => rfl
  | p :: L, h => by
    have hy' : y ∉ Finset.univ.map p.1.emb := by rw [Rect.map_emb_univ]; exact h p List.mem_cons_self
    rw [View.writes_cons, View.read_slice_write_of_not_mem p.1 _ _ _ hy']
    exact read_of_not_mem y L fun q hq => h q (List.mem_cons_of_mem _ hq)

/-- An element that some piece covers, and for which every piece that covers it holds `g`, reads `g`. -/
theorem read_of_mem (y : s.Idx) (g : Val e) : ∀ L : List (View.Piece Val s e), (∀ p ∈ L, ∀ x, p.1.emb x = y → p.2 x = g) → (∃ p ∈ L, y ∈ p.1.set) →
    v.read Val (v.writes Val f L) y = g
  | [], _, h => by obtain ⟨_, hm, _⟩ := h; exact absurd hm List.not_mem_nil
  | p :: L, hP, h => by
    by_cases hy : y ∈ p.1.set
    · obtain ⟨x, hx⟩ : ∃ x, p.1.emb x = y := p.1.exists_idx_of_mem hy
      rw [← hP p List.mem_cons_self x hx, ← hx, View.read_writes_cons_emb]
    · have hy' : y ∉ Finset.univ.map p.1.emb := by rwa [Rect.map_emb_univ]
      rw [View.writes_cons, View.read_slice_write_of_not_mem p.1 _ _ _ hy']
      refine read_of_mem y g L (fun q hq => hP q (List.mem_cons_of_mem _ hq)) ?_
      obtain ⟨q, hq, hyq⟩ := h
      rcases List.mem_cons.mp hq with rfl | hq'
      · exact absurd hyq hy
      · exact ⟨q, hq', hyq⟩
end Read

/-- One element of the quantised gradient of a block. -/
def blockCell (jb : Nat) (x0 : Vec Ideal S128x6400 .f32) (x1 : Vec Ideal S128x128 .f32) (x2 : Vec Ideal S128x1 .i32) (x3 : Vec Ideal S1x6400 .bf16)
    (r : Fin 128) (v : Fin 6400) : EReal :=
  cell (x0 (ix2 r v)) (x1 (ix2 r 64)) (x1 (ix2 r 65)) (x1 (ix2 r 66)) (x1 (ix2 r (dnLane jb v))) (x1 (ix2 r (upLane jb v))) (x3 (ix2 0 v))
    (hot (x2 (ix2 r 0) = BitVec.ofNat 32 (6400 * jb + v)))

section Point
variable (i : grid0.Coords) (arg2 : Memref sig .tc .vmem S128x6400 .f32) (harg2 : arg2.IsWhole) (arg3 : Memref sig .tc .vmem S128x128 .f32) (harg3 : arg3.IsWhole)
    (arg4 : Memref sig .tc .vmem S128x1 .i32) (harg4 : arg4.IsWhole) (arg5 : Memref sig .tc .vmem S1x6400 .bf16) (harg5 : arg5.IsWhole)
    (x0 : Vec Ideal S128x6400 .f32) (x1 : Vec Ideal S128x128 .f32) (x2 : Vec Ideal S128x1 .i32) (x3 : Vec Ideal S1x6400 .bf16)

theorem mem_pieces (p : View.Piece (Elt Ideal) S512x6400 .bf16) : ∀ n, p ∈ pieces i arg2 harg2 arg3 harg3 arg4 harg4 arg5 harg5 x0 x1 x2 x3 n ↔
    ∃ k < n, p = piece i arg2 harg2 arg3 harg3 arg4 harg4 arg5 harg5 x0 x1 x2 x3 k
  | 0 => by simp [pieces]
  | n + 1 => by
    rw [pieces, List.mem_cons, mem_pieces p n]
    constructor
    · rintro (h | ⟨k, hk, h⟩)
      · exact ⟨n, by omega, h⟩
      · exact ⟨k, by omega, h⟩
    · rintro ⟨k, hk, h⟩
      rcases Nat.lt_succ_iff_lt_or_eq.1 hk with h' | h'
      · exact Or.inr ⟨k, h', h⟩
      · subst h'; exact Or.inl h

theorem piece_row (k : Nat) (x) : (((piece i arg2 harg2 arg3 harg3 arg4 harg4 arg5 harg5 x0 x1 x2 x3 k).1.emb x) 0).val
    = 128 * (i 1).val + 32 * (k / 50 % 4) + 1 * (x 0).val :=
  congrArg (· + 1 * (x 0).val) (offs_row i (k / 50 % 4) (Nat.mod_lt _ (by decide)) (128 * (k % 50)))
theorem piece_col (k : Nat) (x) : (((piece i arg2 harg2 arg3 harg3 arg4 harg4 arg5 harg5 x0 x1 x2 x3 k).1.emb x) 1).val
    = 128 * (k % 50) + 1 * (x 1).val := rfl

/-- A row of the point's band holds its quantised gradient, whatever the scratch held before. -/
theorem band_in (jb : Nat) (hj : jb < 5) (hb : blockNo i = BitVec.ofNat 32 jb) (v : View sig .tc .vmem S512x6400 .bf16) (f : v.ty.Contents (Elt Ideal))
    (r : Fin 128) (u : Fin 6400) (y : S512x6400.Idx) (hy0 : (y 0).val = 128 * (i 1).val + r.val) (hy1 : (y 1).val = u.val) :
    v.read (Elt Ideal) (v.writes (Elt Ideal) f (pieces i arg2 harg2 arg3 harg3 arg4 harg4 arg5 harg5 x0 x1 x2 x3 200)) y
      = blockCell jb x0 x1 x2 x3 r u := by
  have hr := r.isLt
  have hu := u.isLt
  refine read_of_mem v f y _ _ ?_ ?_
  · intro p hp x hx
    obtain ⟨k, hk, rfl⟩ := (mem_pieces ..).1 hp
    have e0 := piece_row i arg2 harg2 arg3 harg3 arg4 harg4 arg5 harg5 x0 x1 x2 x3 k x
    have e1 := piece_col i arg2 harg2 arg3 harg3 arg4 harg4 arg5 harg5 x0 x1 x2 x3 k x
    rw [hx] at e0 e1
    have b0 : (x 0).val < 32 := (x 0).isLt
    have b1 : (x 1).val < 128 := (x 1).isLt
    have hq : k % 50 < 50 := Nat.mod_lt _ (by decide)
    have ev : 128 * (k % 50) + (x 1).val = u.val := by omega
    have er : 32 * (k / 50 % 4) + (x 0).val = r.val := by omega
    unfold Cert.Proof.GradTiles.piece
    dsimp only
    rw [hb]
    refine (tile_apply jb hj (k % 50) hq _ _ _ _ x).trans ?_
    rw [ev]
    simp only [harg2.readAt_unread, harg3.readAt_unread, harg4.readAt_unread, harg5.readAt_unread]
    have row : ∀ (l : Fin 128), (Rect.unit (s := S128x128) ![32 * (k / 50 % 4), 0] S32x128.size (rows_inb k)).toLoadRect.idx (ix2 (x 0) l) = ix2 r l := by
      intro l
      apply Shape.idx_ext₂
      · show 32 * (k / 50 % 4) + 1 * (x 0).val = r.val; omega
      · show 0 + 1 * l.val = l.val; omega
    have lab : (Rect.unit (s := S128x1) ![32 * (k / 50 % 4), 0] S32x1.size (rows_inb k)).toLoadRect.idx (ix2 (x 0) 0) = ix2 r 0 := by
      apply Shape.idx_ext₂
      · show 32 * (k / 50 % 4) + 1 * (x 0).val = r.val; omega
      · rfl
    have lg : (Rect.unit (s := S128x6400) ![32 * (k / 50 % 4), 128 * (k % 50)] S32x128.size (tile_inb k)).toLoadRect.idx x = ix2 r u := by
      apply Shape.idx_ext₂
      · show 32 * (k / 50 % 4) + 1 * (x 0).val = r.val; omega
      · show 128 * (k % 50) + 1 * (x 1).val = u.val; omega
    have col : (Rect.unit (s := S1x6400) ![0, 128 * (k % 50)] S1x128.size (cols_inb k)).toLoadRect.idx (ix2 0 (x 1)) = ix2 0 u := by
      apply Shape.idx_ext₂
      · rfl
      · show 128 * (k % 50) + 1 * (x 1).val = u.val; omega
    rw [lab, col, row, row, row, row, row]
    unfold blockCell
    congr 1
    exact (harg2.readAt_unread ..).trans (congrArg x0 lg)
  · refine ⟨_, (mem_pieces ..).2 ⟨50 * (r.val / 32) + u.val / 128, by omega, rfl⟩, ?_⟩
    have e1 : (50 * (r.val / 32) + u.val / 128) / 50 % 4 = r.val / 32 := by omega
    have e2 : (50 * (r.val / 32) + u.val / 128) % 50 = u.val / 128 := by omega
    refine (Rect.mem_set_unit (inb := offs_inb i (50 * (r.val / 32) + u.val / 128))).2 fun a => ?_
    fin_cases a
    · have := offs_row i ((50 * (r.val / 32) + u.val / 128) / 50 % 4) (Nat.mod_lt _ (by decide)) (128 * ((50 * (r.val / 32) + u.val / 128) % 50))
      change offs i _ _ 0 ≤ (y 0).val ∧ (y 0).val < offs i _ _ 0 + 32
      rw [this, e1]
      omega
    · change 128 * ((50 * (r.val / 32) + u.val / 128) % 50) ≤ (y 1).val ∧ (y 1).val < 128 * ((50 * (r.val / 32) + u.val / 128) % 50) + 128
      rw [e2]
      omega

/-- A row outside the point's band keeps what the scratch held. -/
theorem band_out (v : View sig .tc .vmem S512x6400 .bf16) (f : v.ty.Contents (Elt Ideal)) (y : S512x6400.Idx)
    (hy : (y 0).val < 128 * (i 1).val ∨ 128 * (i 1).val + 128 ≤ (y 0).val) :
    v.read (Elt Ideal) (v.writes (Elt Ideal) f (pieces i arg2 harg2 arg3 harg3 arg4 harg4 arg5 harg5 x0 x1 x2 x3 200)) y = v.read (Elt Ideal) f y := by
  refine read_of_not_mem v f y _ fun p hp hm => ?_
  obtain ⟨k, hk, rfl⟩ := (mem_pieces ..).1 hp
  have hm' : y ∈ (Rect.unit (s := S512x6400) (offs i (BitVec.ofNat 32 (32 * (k / 50 % 4))) (128 * (k % 50))) S32x128.size (offs_inb i k)).set := hm
  have h0 := (Rect.mem_set_unit.1 hm') 0
  have := offs_row i (k / 50 % 4) (Nat.mod_lt _ (by decide)) (128 * (k % 50))
  change offs i _ _ 0 ≤ (y 0).val ∧ (y 0).val < offs i _ _ 0 + 32 at h0
  rw [this] at h0
  omega

end Point

/-! ## The output's block -/

abbrev Dk := dot_S512x6400_S1024x6400_S512x1024_1_1_0_0_n_n

theorem lhs0 (j : S512x1024.Idx) (k : Dk.contr.Idx) : (Dk.lhsIdx j k 0 : ℕ) = j 0 := by
  simp [DotDims.lhsIdx, Dk, dot_S512x6400_S1024x6400_S512x1024_1_1_0_0_n_n]; rfl
theorem lhs1 (j : S512x1024.Idx) (k : Dk.contr.Idx) : (Dk.lhsIdx j k 1 : ℕ) = k ⟨0, by decide⟩ :=
  Dk.lhsIdx_val_of_single rfl j k
theorem rhs0 (j : S512x1024.Idx) (k : Dk.contr.Idx) : (Dk.rhsIdx j k 0 : ℕ) = j 1 := by
  simp [DotDims.rhsIdx, Dk, dot_S512x6400_S1024x6400_S512x1024_1_1_0_0_n_n]; rfl
theorem rhs1 (j : S512x1024.Idx) (k : Dk.contr.Idx) : (Dk.rhsIdx j k 1 : ℕ) = k ⟨0, by decide⟩ :=
  Dk.rhsIdx_val_of_single rfl j k

/-- The product of the quantised rows with the rows of the weights, at an index. -/
theorem dotAt (a : Vec Ideal S512x6400 .bf16) (b : Vec Ideal S1024x6400 .fp8e4m3) (r : Fin 512) (n : Fin 1024) :
    matmul (F := Ideal) (φ₁ := .bf16) (φ₂ := .fp8e4m3) Dk none a b (constant S512x1024 .f32 0x00000000#32) (ix2 r n)
      = ∑ k : Fin 6400, a (ix2 r k) * b (ix2 n k) := by
  simp only [matmul]
  rw [Ideal.matmul_constant_zero_apply, ← Equiv.sum_comp (contrEquiv1 Dk 6400 rfl rfl).symm]
  refine Finset.sum_congr rfl fun k _ => ?_
  have hk := contrEquiv1_symm_val Dk 6400 rfl rfl k
  congr 2
  · apply Shape.idx_ext₂
    · rw [lhs0]; rfl
    · rw [lhs1, hk]; rfl
  · apply Shape.idx_ext₂
    · rw [rhs0]; rfl
    · rw [rhs1, hk]; rfl

theorem off_col (i : grid0.Coords) : k0_off51 i 1 = 1024 * (i 1).val := by
  have e : ∀ n : Fin 4, (Scalar.indexCast (Scalar.muli (BitVec.ofNat 32 n.val) 1024#32)).toNat = 1024 * n.val := by decide
  exact e ⟨(i 1).val, (i 1).isLt⟩

theorem off_inb (i : grid0.Coords) : ∀ a, k0_off51 i a + S512x1024.size a ≤ S512x4096.size a := by
  have h1 : (i 1).val < 4 := (i 1).isLt
  intro a
  fin_cases a
  · change 0 + 512 ≤ 512; omega
  · change k0_off51 i 1 + 1024 ≤ 4096
    rw [off_col]; omega

/-- The column block whose product a step adds, as the kernel computes it. -/
def curNo (i : grid0.Coords) : BitVec 32 := Scalar.remsi (Scalar.subi (Scalar.addi (BitVec.ofNat 32 (i 0).val) 5#32) 1#32) 5#32

theorem curNo_eq (i : grid0.Coords) : curNo i = BitVec.ofNat 32 (((i 0).val + 4) % 5) := by
  have e : ∀ n : Fin 151, Scalar.remsi (Scalar.subi (Scalar.addi (BitVec.ofNat 32 n.val) 5#32) 1#32) 5#32 = BitVec.ofNat 32 ((n.val + 4) % 5) := by decide +kernel
  exact e ⟨(i 0).val, (i 0).isLt⟩

theorem blockNo_eq (i : grid0.Coords) : blockNo i = BitVec.ofNat 32 ((i 0).val % 5) := by
  have e : ∀ n : Fin 151, Scalar.remsi (BitVec.ofNat 32 n.val) 5#32 = BitVec.ofNat 32 (n.val % 5) := by decide +kernel
  exact e ⟨(i 0).val, (i 0).isLt⟩

section Out
variable (i : grid0.Coords) (arg6 : Memref sig .tc .vmem S1024x6400 .fp8e4m3) (harg6 : arg6.IsWhole) (arg7 : Memref sig .tc .vmem S512x4096 .f32) (harg7 : arg7.IsWhole)
    (arg : Memref sig .tc .vmem S512x6400 .bf16) (harg : arg.IsWhole) (x4 : Vec Ideal S1024x6400 .fp8e4m3) (y : Vec Ideal S512x4096 .f32) (s : Vec Ideal S512x6400 .bf16)

/-- The columns a point stores into the output's block, as a piece of it. -/
def outPiece : View.Piece (Elt Ideal) S512x4096 .f32 :=
  ⟨Rect.unit (s := S512x4096) (k0_off51 i) S512x1024.size (off_inb i),
    k0_pay461 (curNo i)
      (View.readAt (Elt Ideal) arg.view (Rect.unit (s := S512x6400) ![0, 0] S512x6400.size inb_S512x6400_S512x6400_0_0).toLoadRect (harg.unread s))
      (View.readAt (Elt Ideal) arg6.view (Rect.unit (s := S1024x6400) ![0, 0] S1024x6400.size inb_S1024x6400_S1024x6400_0_0).toLoadRect (harg6.unread x4))
      (View.readAt (Elt Ideal) arg7.view (Rect.unit (s := S512x4096) (k0_off51 i) S512x1024.size (off_inb i)).toLoadRect (harg7.unread y))⟩

/-- A column of the point's own: the product, or the product added to what the block held. -/
theorem out_in (r : Fin 512) (a : Fin 1024) (z : S512x4096.Idx) (hz0 : (z 0).val = r.val) (hz1 : (z 1).val = 1024 * (i 1).val + a.val) :
    arg7.view.read (Elt Ideal) (arg7.view.writes (Elt Ideal) (harg7.unread y) [outPiece i arg6 harg6 arg7 harg7 arg harg x4 y s]) z
      = if ((i 0).val + 4) % 5 = 0 then ∑ k : Fin 6400, s (ix2 r k) * x4 (ix2 a k) else y z + ∑ k : Fin 6400, s (ix2 r k) * x4 (ix2 a k) := by
  have hr := r.isLt
  have ha := a.isLt
  refine read_of_mem _ _ z _ _ ?_ ?_
  · intro p hp x hx
    obtain rfl := List.mem_singleton.1 hp
    have e0 : (z 0).val = 0 + 1 * (x 0).val := by rw [← hx]; rfl
    have e1 : (z 1).val = 1024 * (i 1).val + 1 * (x 1).val := by
      rw [← hx]; exact congrArg (· + 1 * (x 1).val) (off_col i)
    have hxe : x = ix2 r a := by
      apply Shape.idx_ext₂
      · show (x 0).val = r.val; omega
      · show (x 1).val = a.val; omega
    subst hxe
    unfold outPiece k0_pay461
    dsimp only
    have d : matmul (F := Ideal) (φ₁ := .bf16) (φ₂ := .fp8e4m3) Dk none
        (View.readAt (Elt Ideal) arg.view (Rect.unit (s := S512x6400) ![0, 0] S512x6400.size inb_S512x6400_S512x6400_0_0).toLoadRect (harg.unread s))
        (View.readAt (Elt Ideal) arg6.view (Rect.unit (s := S1024x6400) ![0, 0] S1024x6400.size inb_S1024x6400_S1024x6400_0_0).toLoadRect (harg6.unread x4))
        (constant S512x1024 .f32 0x00000000#32) (ix2 r a) = ∑ k : Fin 6400, s (ix2 r k) * x4 (ix2 a k) := by
      refine (dotAt _ _ r a).trans (Finset.sum_congr rfl fun k _ => ?_)
      rw [harg.readAt_unread, harg6.readAt_unread]
      congr 2
      · apply Shape.idx_ext₂
        · show 0 + 1 * r.val = r.val; omega
        · show 0 + 1 * k.val = k.val; omega
      · apply Shape.idx_ext₂
        · show 0 + 1 * a.val = a.val; omega
        · show 0 + 1 * k.val = k.val; omega
    have hc : ∀ n : Fin 5, Scalar.cmpi .eq (BitVec.ofNat 32 n.val) 0#32 = if n.val = 0 then 1#1 else 0#1 := by decide
    have hc' : Scalar.cmpi .eq (curNo i) 0#32 = if ((i 0).val + 4) % 5 = 0 then 1#1 else 0#1 := by
      rw [curNo_eq]; exact hc ⟨((i 0).val + 4) % 5, Nat.mod_lt _ (by decide)⟩
    rw [hc', shapeCast_self]
    by_cases h : ((i 0).val + 4) % 5 = 0
    · rw [if_pos h, if_pos h]
      exact d
    · rw [if_neg h, if_neg h]
      refine congrArg₂ (· + ·) ?_ d
      rw [harg7.readAt_unread]
      exact congrArg y hx
  · refine ⟨_, List.mem_singleton.2 rfl, (Rect.mem_set_unit (inb := off_inb i)).2 fun b => ?_⟩
    fin_cases b
    · change 0 ≤ (z 0).val ∧ (z 0).val < 0 + 512
      omega
    · change k0_off51 i 1 ≤ (z 1).val ∧ (z 1).val < k0_off51 i 1 + 1024
      rw [off_col]; omega

/-- Any other column keeps what the block held. -/
theorem out_out (z : S512x4096.Idx) (hz : (z 1).val < 1024 * (i 1).val ∨ 1024 * (i 1).val + 1024 ≤ (z 1).val) :
    arg7.view.read (Elt Ideal) (arg7.view.writes (Elt Ideal) (harg7.unread y) [outPiece i arg6 harg6 arg7 harg7 arg harg x4 y s]) z = y z := by
  refine (read_of_not_mem _ _ z _ fun p hp hm => ?_).trans (congrFun (harg7.read_unread y) z)
  obtain rfl := List.mem_singleton.1 hp
  have hm' : z ∈ (Rect.unit (s := S512x4096) (k0_off51 i) S512x1024.size (off_inb i)).set := hm
  have h1 := (Rect.mem_set_unit.1 hm') 1
  change k0_off51 i 1 ≤ (z 1).val ∧ (z 1).val < k0_off51 i 1 + 1024 at h1
  rw [off_col] at h1
  omega

end Out

/-- The columns a run at a step of even number stores. -/
theorem runA_out (c : Dev nD) (i : grid0.Coords) (arg2 : Memref sig .tc .vmem S128x6400 .f32) (harg2 : arg2.IsWhole) (arg3 : Memref sig .tc .vmem S128x128 .f32) (harg3 : arg3.IsWhole) (arg4 : Memref sig .tc .vmem S128x1 .i32) (harg4 : arg4.IsWhole) (arg5 : Memref sig .tc .vmem S1x6400 .bf16) (harg5 : arg5.IsWhole) (arg6 : Memref sig .tc .vmem S1024x6400 .fp8e4m3) (harg6 : arg6.IsWhole) (arg7 : Memref sig .tc .vmem S512x4096 .f32) (harg7 : arg7.IsWhole) (arg8 : Memref sig .tc .vmem S512x6400 .bf16) (harg8 : arg8.IsWhole) (arg9 : Memref sig .tc .vmem S512x6400 .bf16) (harg9 : arg9.IsWhole)
    (hc0 : k0_cond1 i = 1#1) (hc1 : ¬ k0_cond2 i = 1#1)
    (x0 : Vec Ideal S128x6400 .f32) (x1 : Vec Ideal S128x128 .f32) (x2 : Vec Ideal S128x1 .i32) (x3 : Vec Ideal S1x6400 .bf16) (x4 : Vec Ideal S1024x6400 .fp8e4m3)
    (y : Vec Ideal S512x4096 .f32) (s0 s1 : Vec Ideal S512x6400 .bf16) :
    (runA (F := Ideal) c i arg2 harg2 arg3 harg3 arg4 harg4 arg5 harg5 arg6 harg6 arg7 harg7 arg8 harg8 arg9 harg9 hc0 hc1 x0 x1 x2 x3 x4 y s0 s1).1
      = [outPiece i arg6 harg6 arg7 harg7 arg9 harg9 x4 y s1] := by
  delta runA
  dsimp only
  rfl

/-- The columns a run at a step of odd number stores. -/
theorem runB_out (c : Dev nD) (i : grid0.Coords) (arg2 : Memref sig .tc .vmem S128x6400 .f32) (harg2 : arg2.IsWhole) (arg3 : Memref sig .tc .vmem S128x128 .f32) (harg3 : arg3.IsWhole) (arg4 : Memref sig .tc .vmem S128x1 .i32) (harg4 : arg4.IsWhole) (arg5 : Memref sig .tc .vmem S1x6400 .bf16) (harg5 : arg5.IsWhole) (arg6 : Memref sig .tc .vmem S1024x6400 .fp8e4m3) (harg6 : arg6.IsWhole) (arg7 : Memref sig .tc .vmem S512x4096 .f32) (harg7 : arg7.IsWhole) (arg8 : Memref sig .tc .vmem S512x6400 .bf16) (harg8 : arg8.IsWhole) (arg9 : Memref sig .tc .vmem S512x6400 .bf16) (harg9 : arg9.IsWhole)
    (hc0 : ¬ k0_cond1 i = 1#1) (hc1 : k0_cond2 i = 1#1)
    (x0 : Vec Ideal S128x6400 .f32) (x1 : Vec Ideal S128x128 .f32) (x2 : Vec Ideal S128x1 .i32) (x3 : Vec Ideal S1x6400 .bf16) (x4 : Vec Ideal S1024x6400 .fp8e4m3)
    (y : Vec Ideal S512x4096 .f32) (s0 s1 : Vec Ideal S512x6400 .bf16) :
    (runB (F := Ideal) c i arg2 harg2 arg3 harg3 arg4 harg4 arg5 harg5 arg6 harg6 arg7 harg7 arg8 harg8 arg9 harg9 hc0 hc1 x0 x1 x2 x3 x4 y s0 s1).1
      = [outPiece i arg6 harg6 arg7 harg7 arg8 harg8 x4 y s0] := by
  delta runB
  dsimp only
  rfl

end Cert.Proof.GradStore

end
-- ==== Proof.GradState.lean ====
/-
  What the gradient call keeps from one point of its grid to the next: which elements its two scratch buffers hold, and which partial sums the
  output's block holds. A step of the grid fills one buffer with the gradients of the next block of columns, a band of rows at each of its points,
  while it multiplies the other buffer, filled in the step before, with a block of the weights.
-/
module

public import proofs.«01_k».proof.Proof.GradStore

@[expose] public section

noncomputable section

namespace Cert.Proof.GradState

open Cert.GradIdeal Cert.GradIdeal.Gen Cert.Proof.GradCell Cert.Proof.GradStore
open Idealize.ShloMosaic Idealize.ShloMosaic.TcCoe

section Pure

variable (a0 : Vec Ideal S15360x32000 .f32) (a1 : Vec Ideal S15360x128 .f32) (a2 : Vec Ideal S15360x1 .i32) (a3 : Vec Ideal S4096x32000 .fp8e4m3)
    (a4 : Vec Ideal S1x32000 .f32)

/-- The quantised gradient of a row at a column, scaled by the row and by the column; zero outside the array. -/
def A (R v : ℕ) : EReal :=
  if h : R < 15360 ∧ v < 32000 then
    cell (a0 (ix2 ⟨R, h.1⟩ ⟨v, h.2⟩)) (a1 (ix2 ⟨R, h.1⟩ 64)) (a1 (ix2 ⟨R, h.1⟩ 65)) (a1 (ix2 ⟨R, h.1⟩ 66))
      (a1 (ix2 ⟨R, h.1⟩ ⟨v / 1600, by omega⟩)) (a1 (ix2 ⟨R, h.1⟩ ⟨32 + v / 1600, by omega⟩)) (a4 (ix2 0 ⟨v, h.2⟩))
      (hot (a2 (ix2 ⟨R, h.1⟩ 0) = BitVec.ofNat 32 v))
  else 0

/-- The weights, zero outside the array. -/
def W (col v : ℕ) : EReal := if h : col < 4096 ∧ v < 32000 then a3 (ix2 ⟨col, h.1⟩ ⟨v, h.2⟩) else 0

/-- The product of a row with a column of the output over one block of the vocabulary. -/
def part (R col j : ℕ) : EReal := ∑ k : Fin 6400, A a0 a1 a2 a4 R (6400 * j + k) * W a3 col (6400 * j + k)

/-- The products over the first blocks, added up. -/
def acc (R col cnt : ℕ) : EReal := ∑ j ∈ Finset.range cnt, part a0 a1 a2 a3 a4 R col j

theorem sum_blocks (f : ℕ → EReal) (n : ℕ) : ∑ j ∈ Finset.range n, ∑ k ∈ Finset.range 6400, f (6400 * j + k) = ∑ v ∈ Finset.range (6400 * n), f v := by
  induction n with
  | zero => simp
  | succ n ih => rw [Finset.sum_range_succ, ih, Nat.mul_succ, Finset.sum_range_add]

/-- The products over all five blocks are the sum over the vocabulary. -/
theorem acc_five (R col : ℕ) : acc a0 a1 a2 a3 a4 R col 5 = ∑ v : Fin 32000, A a0 a1 a2 a4 R v * W a3 col v := by
  unfold acc part
  rw [Fin.sum_univ_eq_sum_range (fun v => A a0 a1 a2 a4 R v * W a3 col v) 32000,
    ← sum_blocks (fun v => A a0 a1 a2 a4 R v * W a3 col v) 5]
  exact Finset.sum_congr rfl fun j _ => Fin.sum_univ_eq_sum_range (fun k => A a0 a1 a2 a4 R (6400 * j + k) * W a3 col (6400 * j + k)) 6400

/-- The buffer being filled holds the rows of the bands stored so far; the other holds the whole block of the step before. -/
def Held (t : ℕ) (tgt src : Vec Ideal S512x6400 .bf16) : Prop :=
  (t / 4 < 150 → ∀ (r : Fin 512) (v : Fin 6400), r.val < 128 * (t % 4) → tgt (ix2 r v) = A a0 a1 a2 a4 (512 * (t / 4 / 5) + r) (6400 * (t / 4 % 5) + v))
  ∧ (1 ≤ t / 4 → t / 4 ≤ 150 → ∀ (r : Fin 512) (v : Fin 6400), src (ix2 r v) = A a0 a1 a2 a4 (512 * ((t / 4 - 1) / 5) + r) (6400 * ((t / 4 - 1) % 5) + v))

/-- The same of the two buffers by their places: they change roles at every step. -/
def Good (t : ℕ) (s0 s1 : Vec Ideal S512x6400 .bf16) : Prop :=
  (t / 4 % 2 = 0 → Held a0 a1 a2 a4 t s0 s1) ∧ (t / 4 % 2 = 1 → Held a0 a1 a2 a4 t s1 s0)

theorem held_step (t : ℕ) (tgt src tgt' : Vec Ideal S512x6400 .bf16) (h : Held a0 a1 a2 a4 t tgt src)
    (hin : t / 4 < 150 → ∀ (r : Fin 512) (v : Fin 6400), 128 * (t % 4) ≤ r.val → r.val < 128 * (t % 4) + 128 →
      tgt' (ix2 r v) = A a0 a1 a2 a4 (512 * (t / 4 / 5) + r) (6400 * (t / 4 % 5) + v))
    (hout : ∀ (r : Fin 512) (v : Fin 6400), r.val < 128 * (t % 4) → tgt' (ix2 r v) = tgt (ix2 r v)) :
    (t % 4 < 3 → Held a0 a1 a2 a4 (t + 1) tgt' src) ∧ (t % 4 = 3 → Held a0 a1 a2 a4 (t + 1) src tgt') := by
  have key : t / 4 < 150 → ∀ (r : Fin 512) (v : Fin 6400), r.val < 128 * (t % 4) + 128 →
      tgt' (ix2 r v) = A a0 a1 a2 a4 (512 * (t / 4 / 5) + r) (6400 * (t / 4 % 5) + v) := fun h1 r v hr => by
    by_cases hr' : r.val < 128 * (t % 4)
    · exact (hout r v hr').trans (h.1 h1 r v hr')
    · exact hin h1 r v (by omega) hr
  constructor
  · intro hn
    have e : (t + 1) / 4 = t / 4 := by omega
    have e' : (t + 1) % 4 = t % 4 + 1 := by omega
    unfold Held
    rw [e, e']
    exact ⟨fun h1 r v hr => key h1 r v (by omega), h.2⟩
  · intro hn
    have e : (t + 1) / 4 = t / 4 + 1 := by omega
    have e' : (t + 1) % 4 = 0 := by omega
    unfold Held
    rw [e, e', Nat.add_sub_cancel]
    exact ⟨fun h1 r v hr => absurd hr (by omega), fun _ h1 r v => key (by omega) r v (by have := r.isLt; omega)⟩

theorem good_even (t : ℕ) (ht : t / 4 % 2 = 0) (s0 s1 s' : Vec Ideal S512x6400 .bf16)
    (h : (t % 4 < 3 → Held a0 a1 a2 a4 (t + 1) s' s1) ∧ (t % 4 = 3 → Held a0 a1 a2 a4 (t + 1) s1 s')) : Good a0 a1 a2 a4 (t + 1) s' s1 :=
  ⟨fun e => h.1 (by omega), fun e => h.2 (by omega)⟩

theorem good_odd (t : ℕ) (ht : t / 4 % 2 = 1) (s0 s1 s' : Vec Ideal S512x6400 .bf16)
    (h : (t % 4 < 3 → Held a0 a1 a2 a4 (t + 1) s' s0) ∧ (t % 4 = 3 → Held a0 a1 a2 a4 (t + 1) s0 s')) : Good a0 a1 a2 a4 (t + 1) s0 s' :=
  ⟨fun e => h.2 (by omega), fun e => h.1 (by omega)⟩

/-- The output's block holds the partial sums of the step, in the columns before `lim` one block more than in the others. -/
def Sums (t lim : ℕ) (X : Vec Ideal S512x4096 .f32) : Prop :=
  1 ≤ t / 4 → ∀ (r : Fin 512) (col : Fin 4096), 0 < (t / 4 - 1) % 5 + (if col.val < lim then 1 else 0) →
    X (ix2 r col) = acc a0 a1 a2 a3 a4 (512 * ((t / 4 - 1) / 5) + r) col ((t / 4 - 1) % 5 + (if col.val < lim then 1 else 0))

theorem sums_step (t : ℕ) (ht : t / 4 ≤ 150) (tgt src : Vec Ideal S512x6400 .bf16) (x4 : Vec Ideal S1024x6400 .fp8e4m3) (Y X : Vec Ideal S512x4096 .f32)
    (h : Held a0 a1 a2 a4 t tgt src) (hY : Sums a0 a1 a2 a3 a4 t (1024 * (t % 4)) Y)
    (hx4 : 1 ≤ t / 4 → ∀ (a : Fin 1024) (k : Fin 6400), x4 (ix2 a k) = W a3 (1024 * (t % 4) + a) (6400 * ((t / 4 - 1) % 5) + k))
    (hin : ∀ (r : Fin 512) (a : Fin 1024) (col : Fin 4096), col.val = 1024 * (t % 4) + a.val →
      X (ix2 r col) = if (t / 4 + 4) % 5 = 0 then ∑ k : Fin 6400, src (ix2 r k) * x4 (ix2 a k) else Y (ix2 r col) + ∑ k : Fin 6400, src (ix2 r k) * x4 (ix2 a k))
    (hout : ∀ (r : Fin 512) (col : Fin 4096), col.val < 1024 * (t % 4) ∨ 1024 * (t % 4) + 1024 ≤ col.val → X (ix2 r col) = Y (ix2 r col)) :
    Sums a0 a1 a2 a3 a4 t (1024 * (t % 4) + 1024) X := by
  intro h1 r col hpos
  by_cases hc : col.val < 1024 * (t % 4)
  · have := hY h1 r col (by rw [if_pos hc]; omega)
    rw [hout r col (.inl hc), this, if_pos hc, if_pos (by omega)]
  · by_cases hc' : col.val < 1024 * (t % 4) + 1024
    · have hd : ∑ k : Fin 6400, src (ix2 r k) * x4 (ix2 (⟨col.val - 1024 * (t % 4), by omega⟩ : Fin 1024) k)
          = part a0 a1 a2 a3 a4 (512 * ((t / 4 - 1) / 5) + r) col ((t / 4 - 1) % 5) := by
        unfold part
        refine Finset.sum_congr rfl fun k _ => ?_
        rw [h.2 h1 ht, hx4 h1]
        congr 2
        show 1024 * (t % 4) + (col.val - 1024 * (t % 4)) = col.val
        omega
      rw [hin r ⟨col.val - 1024 * (t % 4), by omega⟩ col (by show col.val = 1024 * (t % 4) + (col.val - 1024 * (t % 4)); omega), hd, if_pos hc']
      by_cases hz : (t / 4 + 4) % 5 = 0
      · rw [if_pos hz, show (t / 4 - 1) % 5 = 0 by omega]
        exact (Finset.sum_range_one _).symm
      · have := hY h1 r col (by rw [if_neg hc]; omega)
        rw [if_neg hz, this, if_neg hc]
        exact (Finset.sum_range_succ _ _).symm
    · rw [if_neg hc'] at hpos ⊢
      have := hY h1 r col (by rw [if_neg hc]; exact hpos)
      rw [hout r col (.inr (by omega)), this, if_neg hc]

/-- Nothing is asked where the block of rows begins. -/
theorem sums_first (t : ℕ) (ht : t % 4 = 0) (h : t / 4 = 0 ∨ (t / 4 - 1) % 5 = 0) (X : Vec Ideal S512x4096 .f32) :
    Sums a0 a1 a2 a3 a4 t (1024 * (t % 4)) X := by
  intro h1 r col hpos
  rw [ht, if_neg (by omega)] at hpos
  omega

/-- What a point leaves is what the next one finds. -/
theorem sums_next (t : ℕ) (h0 : t ≠ 0) (X : Vec Ideal S512x4096 .f32) (h : Sums a0 a1 a2 a3 a4 (t - 1) (1024 * ((t - 1) % 4) + 1024) X) :
    Sums a0 a1 a2 a3 a4 t (1024 * (t % 4)) X := by
  intro h1 r col hpos
  by_cases hn : t % 4 = 0
  · rw [hn, if_neg (by omega)] at hpos ⊢
    have e : (t - 1) / 4 = t / 4 - 1 := by omega
    have e' : (t - 1) % 4 = 3 := by omega
    have hcol := col.isLt
    have := h (by omega) r col (by rw [e', if_pos (by omega)]; omega)
    rw [e', if_pos (by omega), e, show (t / 4 - 1 - 1) / 5 = (t / 4 - 1) / 5 by omega, show (t / 4 - 1 - 1) % 5 + 1 = (t / 4 - 1) % 5 by omega] at this
    exact this
  · have e : (t - 1) / 4 = t / 4 := by omega
    have e' : 1024 * ((t - 1) % 4) + 1024 = 1024 * (t % 4) := by omega
    unfold Sums at h
    rw [e, e'] at h
    exact h h1 r col hpos

end Pure

end Cert.Proof.GradState

end
-- ==== Proof.GradPoint.lean ====
/-
  The gradient call's input blocks at a point of its grid, read off the argument arrays, and what the body's stores then leave: the band of
  gradients in one scratch buffer, and the partial sums in the output's block.
-/
module

public import proofs.«01_k».proof.Proof.GradState
public import proofs.«01_k».proof.Proof.GradIdealFrame

@[expose] public section

noncomputable section

namespace Cert.Proof.GradPoint

open Cert.GradIdeal Cert.GradIdeal.Gen Cert.Proof.GradIdealRun Cert.Proof.GradTiles Cert.Proof.GradCell Cert.Proof.GradStore Cert.Proof.GradState
open Cert.Proof.GradIdealFrame (even_step odd_step)
open Idealize.ShloMosaic Idealize.ShloMosaic.TcCoe Idealize.ShloMosaic.Tactic

variable (m : (ℓ : Loc nD τ sig) → Buf (Elt Ideal) ℓ)

/-- Which block each window shows at a point of the grid. -/
theorem idx_facts : ∀ t : Fin grid0.N,
    win0_0.index t 0 = min (t.val / 4) 149 / 5 * 4 + t.val % 4 ∧ win0_0.index t 1 = min (t.val / 4) 149 % 5
    ∧ win0_1.index t 0 = min (t.val / 4) 149 / 5 * 4 + t.val % 4 ∧ win0_1.index t 1 = 0
    ∧ win0_2.index t 0 = min (t.val / 4) 149 / 5 * 4 + t.val % 4 ∧ win0_2.index t 1 = 0
    ∧ win0_3.index t 0 = 0 ∧ win0_3.index t 1 = min (t.val / 4) 149 % 5
    ∧ win0_4.index t 0 = t.val % 4 ∧ win0_4.index t 1 = (t.val / 4 - 1) % 5
    ∧ win0_5.index t 0 = (t.val / 4 - 1) / 5 ∧ win0_5.index t 1 = 0 := by decide +kernel

/-- The step and the place in it of a point of the grid. -/
theorem coords_facts : ∀ t : Fin grid0.N, (grid0.coords t 0).val = t.val / 4 ∧ (grid0.coords t 1).val = t.val % 4 := by decide +kernel

/-- The call's arguments on a core. -/
abbrev G0 (c : Dev nD) : Vec Ideal S15360x32000 .f32 := m ((c : Thread nD τ).loc main_arg0)
abbrev G1 (c : Dev nD) : Vec Ideal S15360x128 .f32 := m ((c : Thread nD τ).loc main_arg1)
abbrev G2 (c : Dev nD) : Vec Ideal S15360x1 .i32 := m ((c : Thread nD τ).loc main_arg2)
abbrev G3 (c : Dev nD) : Vec Ideal S4096x32000 .fp8e4m3 := m ((c : Thread nD τ).loc main_arg3)
abbrev G4 (c : Dev nD) : Vec Ideal S1x32000 .f32 := m ((c : Thread nD τ).loc main_arg4)

/-- The scales of the columns, as the call finds them after their change of format. -/
theorem V_main_v0 (c : Dev nD) (x : S1x32000.Idx) : (V m c main_v0 : Vec Ideal S1x32000 .bf16) x = G4 m c x := by
  unfold V
  rw [StableHlo.after_cons, StableHlo.after_nil, StableHlo.unary_result]
  rfl

section Blocks
variable (c : Dev nD) (t : Fin cfg0.N)

theorem blk0 (hs : t.val / 4 < 150) (r : Fin 128) (v : Fin 6400) (R : Fin 15360) (hR : R.val = 512 * (t.val / 4 / 5) + (128 * (t.val % 4) + r.val))
    (w : Fin 32000) (hw : w.val = 6400 * (t.val / 4 % 5) + v.val) : (iblk m c 0 t : Vec Ideal S128x6400 .f32) (ix2 r v) = G0 m c (ix2 R w) := by
  obtain ⟨f0, f1, -⟩ := idx_facts t
  unfold iblk
  show V m c main_arg0 (((cfg0.win 0).blk t).view.emb (ix2 r v)) = _
  rw [V_main_arg0]
  congr 1
  apply Shape.idx_ext₂
  · show win0_0.index t 0 * 128 + 1 * r.val = R.val
    rw [f0]; omega
  · show win0_0.index t 1 * 6400 + 1 * v.val = w.val
    rw [f1]; omega

theorem blk1 (hs : t.val / 4 < 150) (r : Fin 128) (l : Fin 128) (R : Fin 15360) (hR : R.val = 512 * (t.val / 4 / 5) + (128 * (t.val % 4) + r.val)) :
    (iblk m c 1 t : Vec Ideal S128x128 .f32) (ix2 r l) = G1 m c (ix2 R l) := by
  obtain ⟨-, -, f0, f1, -⟩ := idx_facts t
  unfold iblk
  show V m c main_arg1 (((cfg0.win 1).blk t).view.emb (ix2 r l)) = _
  rw [V_main_arg1]
  congr 1
  apply Shape.idx_ext₂
  · show win0_1.index t 0 * 128 + 1 * r.val = R.val
    rw [f0]; omega
  · show win0_1.index t 1 * 128 + 1 * l.val = l.val
    rw [f1]; omega

theorem blk2 (hs : t.val / 4 < 150) (r : Fin 128) (R : Fin 15360) (hR : R.val = 512 * (t.val / 4 / 5) + (128 * (t.val % 4) + r.val)) :
    (iblk m c 2 t : Vec Ideal S128x1 .i32) (ix2 r 0) = G2 m c (ix2 R 0) := by
  obtain ⟨-, -, -, -, f0, f1, -⟩ := idx_facts t
  unfold iblk
  show V m c main_arg2 (((cfg0.win 2).blk t).view.emb (ix2 r 0)) = _
  rw [V_main_arg2]
  congr 1
  apply Shape.idx_ext₂
  · show win0_2.index t 0 * 128 + 1 * r.val = R.val
    rw [f0]; omega
  · show win0_2.index t 1 * 1 + 1 * 0 = 0
    rw [f1]

theorem blk3 (hs : t.val / 4 < 150) (v : Fin 6400) (w : Fin 32000) (hw : w.val = 6400 * (t.val / 4 % 5) + v.val) :
    (iblk m c 3 t : Vec Ideal S1x6400 .bf16) (ix2 0 v) = G4 m c (ix2 0 w) := by
  obtain ⟨-, -, -, -, -, -, f0, f1, -⟩ := idx_facts t
  unfold iblk
  show V m c main_v0 (((cfg0.win 3).blk t).view.emb (ix2 0 v)) = _
  refine (V_main_v0 m c _).trans ?_
  congr 1
  apply Shape.idx_ext₂
  · show win0_3.index t 0 * 1 + 1 * 0 = 0
    rw [f0]
  · show win0_3.index t 1 * 6400 + 1 * v.val = w.val
    rw [f1]; omega

theorem blk4 (a : Fin 1024) (k : Fin 6400) :
    (iblk m c 4 t : Vec Ideal S1024x6400 .fp8e4m3) (ix2 a k) = W (G3 m c) (1024 * (t.val % 4) + a) (6400 * ((t.val / 4 - 1) % 5) + k) := by
  obtain ⟨-, -, -, -, -, -, -, -, f0, f1, -⟩ := idx_facts t
  have ha := a.isLt
  have hk := k.isLt
  unfold iblk W
  rw [dif_pos (by omega)]
  show V m c main_arg3 (((cfg0.win 4).blk t).view.emb (ix2 a k)) = _
  rw [V_main_arg3]
  congr 1
  apply Shape.idx_ext₂
  · show win0_4.index t 0 * 1024 + 1 * a.val = 1024 * (t.val % 4) + a.val
    rw [f0]; omega
  · show win0_4.index t 1 * 6400 + 1 * k.val = 6400 * ((t.val / 4 - 1) % 5) + k.val
    rw [f1]; omega

/-- The elements a point stores, off its input blocks, are the gradients of its rows and columns. -/
theorem band_eq (hs : t.val / 4 < 150) (r : Fin 128) (v : Fin 6400) :
    blockCell (t.val / 4 % 5) (iblk m c 0 t) (iblk m c 1 t) (iblk m c 2 t) (iblk m c 3 t) r v
      = A (G0 m c) (G1 m c) (G2 m c) (G4 m c) (512 * (t.val / 4 / 5) + (128 * (t.val % 4) + r.val)) (6400 * (t.val / 4 % 5) + v.val) := by
  have hr := r.isLt
  have hv := v.isLt
  have hb : 512 * (t.val / 4 / 5) + (128 * (t.val % 4) + r.val) < 15360 ∧ 6400 * (t.val / 4 % 5) + v.val < 32000 := by omega
  have e1 : ∀ l : Fin 128, (iblk m c 1 t : Vec Ideal S128x128 .f32) (ix2 r l) = G1 m c (ix2 ⟨_, hb.1⟩ l) := fun l => blk1 m c t hs r l ⟨_, hb.1⟩ rfl
  have ed : dnLane (t.val / 4 % 5) v.val = ⟨(6400 * (t.val / 4 % 5) + v.val) / 1600, by omega⟩ := by
    apply Fin.ext
    show (4 * (t.val / 4 % 5) + v.val / 1600 % 4) % 32 = (6400 * (t.val / 4 % 5) + v.val) / 1600
    omega
  have eu : upLane (t.val / 4 % 5) v.val = ⟨32 + (6400 * (t.val / 4 % 5) + v.val) / 1600, by omega⟩ := by
    apply Fin.ext
    show 32 + (4 * (t.val / 4 % 5) + v.val / 1600 % 4) % 32 = 32 + (6400 * (t.val / 4 % 5) + v.val) / 1600
    omega
  unfold blockCell A
  rw [dif_pos hb, e1, e1, e1, e1, e1, ed, eu, blk0 m c t hs r v ⟨_, hb.1⟩ rfl ⟨_, hb.2⟩ rfl, blk2 m c t hs r ⟨_, hb.1⟩ rfl, blk3 m c t hs v ⟨_, hb.2⟩ rfl]

end Blocks

end Cert.Proof.GradPoint

end
-- ==== Proof.GradMain.lean ====
/-
  The gradient call, run: from what each point keeps (the two scratch buffers and the output's block, `GradState`) to the array that the call
  writes, which is the product of the quantised gradients with the weights.
-/
module

public import proofs.«01_k».proof.Proof.GradPoint
public import Idealize.ShloMosaic.Lib.Pipeline.DatRel
public import Idealize.ShloMosaic.Lib.Pipeline.ArrRel

@[expose] public section

noncomputable section

namespace Cert.Proof.GradMain

open Cert.GradIdeal Cert.GradIdeal.Gen Cert.Proof.GradIdealRun Cert.Proof.GradTiles Cert.Proof.GradCell Cert.Proof.GradStore Cert.Proof.GradState Cert.Proof.GradPoint
open Cert.Proof.GradIdealFrame (even_step odd_step sc0 sc1 held_eq forgets0 defs₀_row)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable (m : (ℓ : Loc nD τ sig) → Buf (Elt Ideal) ℓ) (ρ : Dev nD → PrngReg)

/-- What the scratch buffers hold before a point. -/
abbrev GoodAt (c : Dev nD) (t : ℕ) (s0 s1 : Vec Ideal S512x6400 .bf16) : Prop := Good (G0 m c) (G1 m c) (G2 m c) (G4 m c) t s0 s1
/-- What the output's block holds, columns before `lim` ahead of the others. -/
abbrev SumsAt (c : Dev nD) (t lim : ℕ) (X : Vec Ideal S512x4096 .f32) : Prop := Sums (G0 m c) (G1 m c) (G2 m c) (G3 m c) (G4 m c) t lim X

/-! ## One point -/

section Step
variable (c : Dev nD) (t : Fin cfg0.N)

theorem lt604 : t.val < 604 := t.isLt

/-- The scratch that a point stores into, after it. -/
theorem point_held (arg2 : Memref sig .tc .vmem S128x6400 .f32) (harg2 : arg2.IsWhole) (arg3 : Memref sig .tc .vmem S128x128 .f32) (harg3 : arg3.IsWhole)
    (arg4 : Memref sig .tc .vmem S128x1 .i32) (harg4 : arg4.IsWhole) (arg5 : Memref sig .tc .vmem S1x6400 .bf16) (harg5 : arg5.IsWhole)
    (arg : Memref sig .tc .vmem S512x6400 .bf16) (harg : arg.IsWhole) (tgt src : Vec Ideal S512x6400 .bf16)
    (h : Held (G0 m c) (G1 m c) (G2 m c) (G4 m c) t.val tgt src) (tgt' : Vec Ideal S512x6400 .bf16)
    (e : tgt' = arg.view.read (Elt Ideal) (arg.view.writes (Elt Ideal) (harg.unread tgt)
        (pieces (grid0.coords t) arg2 harg2 arg3 harg3 arg4 harg4 arg5 harg5 (iblk m c 0 t) (iblk m c 1 t) (iblk m c 2 t) (iblk m c 3 t) 200))) :
    (t.val % 4 < 3 → Held (G0 m c) (G1 m c) (G2 m c) (G4 m c) (t.val + 1) tgt' src)
      ∧ (t.val % 4 = 3 → Held (G0 m c) (G1 m c) (G2 m c) (G4 m c) (t.val + 1) src tgt') := by
  obtain ⟨c0, c1⟩ := coords_facts t
  subst e
  refine held_step _ _ _ _ t.val tgt src _ h (fun hs r v h1 h2 => ?_) (fun r v hr => ?_)
  · have hb : blockNo (grid0.coords t) = BitVec.ofNat 32 (t.val / 4 % 5) := by rw [blockNo_eq, c0]
    refine (band_in (grid0.coords t) arg2 harg2 arg3 harg3 arg4 harg4 arg5 harg5 _ _ _ _ (t.val / 4 % 5) (Nat.mod_lt _ (by decide)) hb arg.view _
      ⟨r.val - 128 * (t.val % 4), by omega⟩ v (ix2 r v) ?_ rfl).trans ?_
    · rw [c1]
      show r.val = 128 * (t.val % 4) + (r.val - 128 * (t.val % 4))
      omega
    · refine (band_eq m c t hs _ v).trans ?_
      rw [show 128 * (t.val % 4) + (r.val - 128 * (t.val % 4)) = r.val by omega]
  · refine (band_out (grid0.coords t) arg2 harg2 arg3 harg3 arg4 harg4 arg5 harg5 _ _ _ _ arg.view _ (ix2 r v) (.inl ?_)).trans (congrFun (harg.read_unread tgt) _)
    rw [c1]
    exact hr

/-- The output's block after a point. -/
theorem point_sums (arg6 : Memref sig .tc .vmem S1024x6400 .fp8e4m3) (harg6 : arg6.IsWhole) (arg7 : Memref sig .tc .vmem S512x4096 .f32) (harg7 : arg7.IsWhole)
    (arg : Memref sig .tc .vmem S512x6400 .bf16) (harg : arg.IsWhole) (tgt src : Vec Ideal S512x6400 .bf16)
    (h : Held (G0 m c) (G1 m c) (G2 m c) (G4 m c) t.val tgt src) (Y : Vec Ideal S512x4096 .f32) (hY : SumsAt m c t.val (1024 * (t.val % 4)) Y) :
    SumsAt m c t.val (1024 * (t.val % 4) + 1024) (arg7.view.read (Elt Ideal) (arg7.view.writes (Elt Ideal) (harg7.unread Y)
      [outPiece (grid0.coords t) arg6 harg6 arg7 harg7 arg harg (iblk m c 4 t) Y src])) := by
  obtain ⟨c0, c1⟩ := coords_facts t
  have ht := lt604 t
  refine sums_step _ _ _ _ _ t.val (by omega) tgt src (iblk m c 4 t) Y _ h hY (fun _ a k => blk4 m c t a k) (fun r a col hc => ?_) (fun r col hc => ?_)
  · have := out_in (grid0.coords t) arg6 harg6 arg7 harg7 arg harg (iblk m c 4 t) Y src r a (ix2 r col) rfl (by rw [c1]; exact hc)
    rw [c0] at this
    exact this
  · exact out_out (grid0.coords t) arg6 harg6 arg7 harg7 arg harg (iblk m c 4 t) Y src (ix2 r col) (by rw [c1]; exact hc)

end Step

/-! ## The proof data -/

/-- The proof data on a core: every input's block is left in place, and between points the scratch buffers hold what `GoodAt` says. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dat.unnamed (cfg := cfg0) 5 t
  Φ t := iprop((∃ s0 s1, ⌜GoodAt m c t.val s0 s1⌝ ∗ owns (c : Thread nD τ) sc0 fullShare s0 ∗ owns (c : Thread nD τ) sc1 fullShare s1) ∗ (∃ r, prngReg c r))
  q _ := fullShare
  owed _ := 0

/-- What a point leaves in the output's block. -/
def Rl (c : Dev nD) (w : Fin cfg0.W) (t : Fin cfg0.N) : ((cfg0.win w).block.Idx → Elt Ideal (cfg0.win w).elt) → Prop :=
  match w with
  | ⟨5, _⟩ => fun X => SumsAt m c t.val (1024 * (t.val % 4) + 1024) X
  | _ => fun _ => True

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The output's block is written back where a block of rows ends. -/
theorem flush_facts : ∀ t : Fin cfg0.N, (cfg0.win 5).flush t = true → t.val % 20 = 3 ∧ 4 ≤ t.val :=
  (by decide +kernel : ∀ t : Fin grid0.N, (cfg0.win 5).flush t = true → t.val % 20 = 3 ∧ 4 ≤ t.val)

/-- What a point finds in the output's block. -/
theorem found (c : Dev nD) (t : Fin cfg0.N) (Y : Vec Ideal S512x4096 .f32)
    (h : ((dats m 0 c).toRRel forgets0 (Rl m c)).Finds 5 t Y) : SumsAt m c t.val (1024 * (t.val % 4)) Y := by
  by_cases h0 : t.val = 0
  · exact sums_first _ _ _ _ _ t.val (by omega) (.inl (by omega)) Y
  · rcases (RDat.finds_of_pos _ ((cfg0.win 5).fetch_out rfl t) h0 Y).1 h with hf | hl
    · have hf' := (flush_facts _ hf).1
      change (t.val - 1) % 20 = 3 at hf'
      exact sums_first _ _ _ _ _ t.val (by omega) (.inr (by omega)) Y
    · have hr : Rl m c 5 _ Y := (dats m 0 c).toRRel_leaves (fgt := forgets0) (Rl := Rl m c) (by decide) hl
      exact sums_next _ _ _ _ _ t.val h0 Y hr

/-- What the body is called with at a point, window by window. -/
def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜((dats m 0 c).toRRel forgets0 (Rl m c)).Finds 5 t Y⌝ ∗ owns (c : Thread nD τ) (st0_5 t) fullShare Y))

/-- What it returns. -/
def bodyPost (c : Dev nD) (t : Fin cfg0.N) : sProp (MT nD τ sig Unit (Elt Ideal) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, ⌜Rl m c 5 t X⌝ ∗ owns (c : Thread nD τ) (st0_5 t) fullShare X))

/-- A buffer held at given contents is owned at what its view reads there. -/
theorem owns_of_held {c : Dev nD} {s : Shape} {e : EltTy} (a : Memref sig .tc .vmem s e) (f : Buf (Elt Ideal) (a.view.loc (c : Thread nD τ))) :
    (a.view.loc (c : Thread nD τ) ↦[a.view.set]{fullShare} f : sProp (MT nD τ sig Unit (Elt Ideal) ℕ (UR sig nD τ) ℕ))
      ⊢ owns (c : Thread nD τ) a fullShare (a.view.read (Elt Ideal) f) := by
  unfold owns
  iintro H
  iexists f; isplitr; swap; · iexact H
  ipureintro; rfl

/-- What a point of a step of even number leaves. -/
theorem left_A (c : Dev nD) (t : Fin cfg0.N) (h : t.val / 4 % 2 = 0) (s0 s1 : Vec Ideal S512x6400 .bf16) (hg : GoodAt m c t.val s0 s1)
    (arg2 : Memref sig .tc .vmem S128x6400 .f32) (harg2 : arg2.IsWhole) (arg3 : Memref sig .tc .vmem S128x128 .f32) (harg3 : arg3.IsWhole)
    (arg4 : Memref sig .tc .vmem S128x1 .i32) (harg4 : arg4.IsWhole) (arg5 : Memref sig .tc .vmem S1x6400 .bf16) (harg5 : arg5.IsWhole)
    (arg6 : Memref sig .tc .vmem S1024x6400 .fp8e4m3) (harg6 : arg6.IsWhole) (arg7 : Memref sig .tc .vmem S512x4096 .f32) (harg7 : arg7.IsWhole)
    (arg8 : Memref sig .tc .vmem S512x6400 .bf16) (harg8 : arg8.IsWhole) (arg9 : Memref sig .tc .vmem S512x6400 .bf16) (harg9 : arg9.IsWhole)
    (hc : k0_cond1 (grid0.coords t) = 1#1) (hc' : ¬ k0_cond2 (grid0.coords t) = 1#1)
    (y : Vec Ideal S512x4096 .f32) (hY : SumsAt m c t.val (1024 * (t.val % 4)) y) :
    GoodAt m c (t.val + 1) (arg8.view.read (Elt Ideal) (arg8.view.writes (Elt Ideal) (harg8.unread s0)
      (runA (F := Ideal) c (grid0.coords t) arg2 harg2 arg3 harg3 arg4 harg4 arg5 harg5 arg6 harg6 arg7 harg7 arg8 harg8 arg9 harg9 hc hc'
        (iblk m c 0 t) (iblk m c 1 t) (iblk m c 2 t) (iblk m c 3 t) (iblk m c 4 t) y s0 s1).2.1)) s1
    ∧ SumsAt m c t.val (1024 * (t.val % 4) + 1024) (arg7.view.read (Elt Ideal) (arg7.view.writes (Elt Ideal) (harg7.unread y)
      (runA (F := Ideal) c (grid0.coords t) arg2 harg2 arg3 harg3 arg4 harg4 arg5 harg5 arg6 harg6 arg7 harg7 arg8 harg8 arg9 harg9 hc hc'
        (iblk m c 0 t) (iblk m c 1 t) (iblk m c 2 t) (iblk m c 3 t) (iblk m c 4 t) y s0 s1).1)) := by
  rw [runA_pieces, runA_out]
  exact ⟨good_even _ _ _ _ t.val h s0 s1 _ (point_held m c t _ _ _ _ _ _ _ _ arg8 harg8 s0 s1 (hg.1 h) _ rfl),
    point_sums m c t _ _ _ _ arg9 harg9 s0 s1 (hg.1 h) y hY⟩

/-- What a point of a step of odd number leaves. -/
theorem left_B (c : Dev nD) (t : Fin cfg0.N) (h : t.val / 4 % 2 = 1) (s0 s1 : Vec Ideal S512x6400 .bf16) (hg : GoodAt m c t.val s0 s1)
    (arg2 : Memref sig .tc .vmem S128x6400 .f32) (harg2 : arg2.IsWhole) (arg3 : Memref sig .tc .vmem S128x128 .f32) (harg3 : arg3.IsWhole)
    (arg4 : Memref sig .tc .vmem S128x1 .i32) (harg4 : arg4.IsWhole) (arg5 : Memref sig .tc .vmem S1x6400 .bf16) (harg5 : arg5.IsWhole)
    (arg6 : Memref sig .tc .vmem S1024x6400 .fp8e4m3) (harg6 : arg6.IsWhole) (arg7 : Memref sig .tc .vmem S512x4096 .f32) (harg7 : arg7.IsWhole)
    (arg8 : Memref sig .tc .vmem S512x6400 .bf16) (harg8 : arg8.IsWhole) (arg9 : Memref sig .tc .vmem S512x6400 .bf16) (harg9 : arg9.IsWhole)
    (hc : ¬ k0_cond1 (grid0.coords t) = 1#1) (hc' : k0_cond2 (grid0.coords t) = 1#1)
    (y : Vec Ideal S512x4096 .f32) (hY : SumsAt m c t.val (1024 * (t.val % 4)) y) :
    GoodAt m c (t.val + 1) s0 (arg9.view.read (Elt Ideal) (arg9.view.writes (Elt Ideal) (harg9.unread s1)
      (runB (F := Ideal) c (grid0.coords t) arg2 harg2 arg3 harg3 arg4 harg4 arg5 harg5 arg6 harg6 arg7 harg7 arg8 harg8 arg9 harg9 hc hc'
        (iblk m c 0 t) (iblk m c 1 t) (iblk m c 2 t) (iblk m c 3 t) (iblk m c 4 t) y s0 s1).2.1))
    ∧ SumsAt m c t.val (1024 * (t.val % 4) + 1024) (arg7.view.read (Elt Ideal) (arg7.view.writes (Elt Ideal) (harg7.unread y)
      (runB (F := Ideal) c (grid0.coords t) arg2 harg2 arg3 harg3 arg4 harg4 arg5 harg5 arg6 harg6 arg7 harg7 arg8 harg8 arg9 harg9 hc hc'
        (iblk m c 0 t) (iblk m c 1 t) (iblk m c 2 t) (iblk m c 3 t) (iblk m c 4 t) y s0 s1).1)) := by
  rw [runB_pieces, runB_out]
  exact ⟨good_odd _ _ _ _ t.val h s0 s1 _ (point_held m c t _ _ _ _ _ _ _ _ arg9 harg9 s1 s0 (hg.2 h) _ rfl),
    point_sums m c t _ _ _ _ arg8 harg8 s1 s0 (hg.2 h) y hY⟩

/-- What is held between points, spelled out. -/
theorem Φ_eq (c : Dev nD) (t : Fin (cfg0.N + 1)) : (dats m 0 c).Φ t
    = iprop((∃ s0 s1, ⌜GoodAt m c t.val s0 s1⌝ ∗ owns (c : Thread nD τ) sc0 fullShare s0 ∗ owns (c : Thread nD τ) sc1 fullShare s1) ∗ (∃ r, prngReg c r)) := by
  dsimp only [dats]

set_option maxHeartbeats 4000000 in
/-- The body at any point, by the number of the step. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, after_0, after_1, after_2, after_3, after_4]
  rw [show (dats m 0 c).owesAt () t.succ = (dats m 0 c).owesAt () t.castSucc from rfl, Φ_eq, Φ_eq]
  iintro ⟨⟨⟨%s0, %s1, %hg, HS0, HS1⟩, Hg⟩, Ho, ⟨%d0, H0⟩, ⟨%d1, H1⟩, ⟨%d2, H2⟩, ⟨%d3, H3⟩, ⟨%d4, H4⟩, ⟨%y, %hF, H5⟩⟩
  by_cases h : t.val / 4 % 2 = 0
  · iapply ((runA c (grid0.coords t) _ _ _ _ _ _ _ _ _ _ _ _ _ _ _ _ (even_step t h).1 (even_step t h).2
      (iblk m c 0 t) (iblk m c 1 t) (iblk m c 2 t) (iblk m c 3 t) (iblk m c 4 t) y s0 s1).2.2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    have hl := left_A m c t h s0 s1 hg
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) sc0 (Memref.isWhole_whole _) sc1 (Memref.isWhole_whole _)
      (even_step t h).1 (even_step t h).2 y (found m c t y hF)
    isplitl [HS0 HS1 Hg]
    · isplitr [Hg]; swap; · iexact Hg
      iexists _, _
      isplitr; · ipureintro; exact hl.1
      isplitl [HS0]; · iapply (owns_of_held sc0 _); iexact HS0
      iexact HS1
    isplitl [Ho]; · iexact Ho
    isplitl [H0]; · iexact H0
    isplitl [H1]; · iexact H1
    isplitl [H2]; · iexact H2
    isplitl [H3]; · iexact H3
    isplitl [H4]; · iexact H4
    iexists _
    isplitr; · ipureintro; exact hl.2
    iapply (owns_of_held _ _); iexact H5
  · iapply ((runB c (grid0.coords t) _ _ _ _ _ _ _ _ _ _ _ _ _ _ _ _ (odd_step t h).1 (odd_step t h).2
      (iblk m c 0 t) (iblk m c 1 t) (iblk m c 2 t) (iblk m c 3 t) (iblk m c 4 t) y s0 s1).2.2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    have hl := left_B m c t (by omega) s0 s1 hg
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) sc0 (Memref.isWhole_whole _) sc1 (Memref.isWhole_whole _)
      (odd_step t h).1 (odd_step t h).2 y (found m c t y hF)
    isplitl [HS0 HS1 Hg]
    · isplitr [Hg]; swap; · iexact Hg
      iexists _, _
      isplitr; · ipureintro; exact hl.1
      isplitl [HS0]; · iexact HS0
      iapply (owns_of_held sc1 _); iexact HS1
    isplitl [Ho]; · iexact Ho
    isplitl [H0]; · iexact H0
    isplitl [H1]; · iexact H1
    isplitl [H2]; · iexact H2
    isplitl [H3]; · iexact H3
    isplitl [H4]; · iexact H4
    iexists _
    isplitr; · ipureintro; exact hl.2
    iapply (owns_of_held _ _); iexact H5

theorem body_obligation (c : Dev nD) :
    Pipeline.BodyObligationRel (dats m 0 c) (defs₀ (F := Ideal)) Variants.none () Set.univ forgets0 (Rl m c) := fun t => by
  rw [bigSep_W0, bigSep_W0, defs₀_row]
  exact triple_restated (sound_body m c t) rfl .rfl fun _ => .rfl

theorem good_zero (c : Dev nD) (s0 s1 : Vec Ideal S512x6400 .bf16) : GoodAt m c 0 s0 s1 :=
  ⟨fun _ => ⟨fun _ r v hr => absurd hr (by omega), fun h => absurd h (by omega)⟩, fun h => absurd h (by omega)⟩

theorem hin (c : Dev nD) : (Pipeline.ΦA spec0 c : sProp (MT nD τ sig Unit (Elt Ideal) ℕ (UR sig nD τ) ℕ)) ⊢ (dats m 0 c).Φ 0 := by
  rw [held_eq, Φ_eq]
  iintro ⟨⟨⟨%s0, HS0⟩, ⟨%s1, HS1⟩⟩, Hg⟩
  isplitr [Hg]; swap; · iexact Hg
  iexists s0, s1
  isplitr; · ipureintro; exact good_zero m c s0 s1
  isplitl [HS0]; · iexact HS0
  iexact HS1

theorem hout (c : Dev nD) : (dats m 0 c).Φ (Fin.last cfg0.N) ⊢ (Pipeline.ΦA spec0 c : sProp (MT nD τ sig Unit (Elt Ideal) ℕ (UR sig nD τ) ℕ)) := by
  rw [held_eq, Φ_eq]
  iintro ⟨⟨%s0, %s1, %hg, HS0, HS1⟩, Hg⟩
  isplitr [Hg]; swap; · iexact Hg
  isplitl [HS0]; · iexists s0; iexact HS0
  iexists s1; iexact HS1

-- the theorem's implicit arguments are found by unifying its conclusion with this statement
set_option backward.isDefEq.respectTransparency.types false in
theorem run_main :
    θ_run defs (onTc (τ := τ) (main (F := Ideal))) (s₀ m ρ)
      (fun r => Pipeline.RDat.FramePost (cfgs 0) (fun c => (dats m 0 c).toRRel forgets0 (Rl m c)) (V m) r ∧ r.2.sem = fun _ => 0) :=
  Pipeline.RDat.θ_run_frame_track cfgs (0 : Fin 1) launch0 defs₀ Variants.none (fun c => (dats m 0 c).toRRel forgets0 (Rl m c)) m ρ main
    (hbody := fun c => (body_obligation m c).toRRel) (hshare := fun c => (dats m 0 c).share_full fun _ => rfl)
    (howed := fun _ _ => rfl) (V := V m) (hmain := hmain m Variants.none) (hA := A_eq m) (hin := hin m) (hout := hout m) (Q' := _)

/-! ## The array -/

/-- The array that the call writes, element by element. -/
def product (c : Dev nD) : Vec Ideal S15360x4096 .f32 :=
  fun x => ∑ v : Fin 32000, A (G0 m c) (G1 m c) (G2 m c) (G4 m c) (x 0).val v * W (G3 m c) (x 1).val v

theorem final (r : PUnit × MemSt nD τ sig (Elt Ideal))
    (h : Pipeline.RDat.FramePost (cfgs 0) (fun c => (dats m 0 c).toRRel forgets0 (Rl m c)) (V m) r) (c : Dev nD) :
    r.2.mem ((c : Thread nD τ).loc main_v1) = product m c := by
  obtain ⟨after, hL, hA⟩ := h.exists_exact c
  refine (hA 5).trans ?_
  refine Pipeline.Dat.arrAt_eq_of_covers _ 5 _ (by decide +kernel) fun t hf y => ?_
  have hr : Rl m c 5 t (after 5 t) := (dats m 0 c).toRRel_leaves (fgt := forgets0) (Rl := Rl m c) (by decide) (hL 5 t hf)
  have h4 := (flush_facts t hf)
  obtain ⟨-, -, -, -, -, -, -, -, -, -, f0, f1⟩ := idx_facts t
  blk_simp
  idx_vars y
  have hy1 := y1.isLt
  refine (hr (by omega) y0 y1 (by omega)).trans ?_
  rw [if_pos (by omega), show (t.val / 4 - 1) % 5 + 1 = 5 by omega, acc_five]
  have e : ((View.whole main_v1).slice (win0_5.rect t)).emb (ix2 y0 y1)
      = ix2 (⟨512 * ((t.val / 4 - 1) / 5) + y0, by have := lt604 t; omega⟩ : Fin 15360) y1 := by
    blk_ext [f0, f1]
  exact (congrArg (product m c) e).symm

end Cert.Proof.GradMain

end
-- ==== Proof.GradRefValue.lean ====
/-
  The reference of the gradient call at an index: the product of the quantised gradients with the weights, in the same form as the call's.
-/
module

public import proofs.«01_k».proof.Proof.GradState
public import proofs.«01_k».proof.Proof.Gen.GradRefIdeal.Value

@[expose] public section

noncomputable section

namespace Cert.Proof.GradRefValue

open Cert.GradRefIdeal Cert.GradRefIdeal.Gen Cert.Proof.GradCell
open Idealize.ShloMosaic Idealize.ShloMosaic.TcCoe
open Idealize.ShloMosaic.ValueIdx (contrEquiv1 contrEquiv1_symm_val)

theorem slices_lane (l : Nat) (h : l < 128) : S15360x128.Slices ![0, l] S15360x1 := by
  refine ⟨rfl, fun a => ?_⟩
  fin_cases a
  · show 0 + 15360 ≤ 15360; omega
  · show l + 1 ≤ 128; omega

/-- A lane of the statistics, spread over one chunk of the vocabulary. -/
def chunk (a1 : Vec Ideal S15360x128 .f32) (l : Nat) (h : l < 128) : FVec Ideal S15360x1600 .f32 :=
  broadcastTo S15360x1600 (shapeCast S15360x1 (extractStridedSlice S15360x1 ![0, l] a1 (slices_lane l h)) shapeCasts_S15360x1_S15360x1) broadcasts_S15360x1_S15360x1600

theorem lane_apply (a1 : Vec Ideal S15360x128 .f32) (l : Nat) (h : l < 128) (hs) (R : Fin 15360) :
    extractStridedSlice S15360x1 ![0, l] a1 hs (ix2 R 0) = a1 (ix2 R ⟨l, h⟩) :=
  extractStridedSlice_apply _ _ _ (ix2 R 0) (ix2 R ⟨l, h⟩) (by intro a; fin_cases a <;> first | exact (Nat.zero_add _).symm | rfl)

theorem chunk_apply (a1 : Vec Ideal S15360x128 .f32) (l : Nat) (h : l < 128) (x : S15360x1600.Idx) : chunk a1 l h x = a1 (ix2 (x 0) ⟨l, h⟩) := by
  unfold chunk
  rw [shapeCast_self]
  exact (broadcastTo_apply _ _ x (ix2 (x 0) 0) (by intro a; fin_cases a <;> rfl)).trans (lane_apply a1 l h _ _)

/-- Twenty lanes of the statistics, from lane `o` on, spread over the twenty chunks. -/
def lanes (a1 : Vec Ideal S15360x128 .f32) (o : Nat) (h : o ≤ 100) : FVec Ideal S15360x32000 .f32 :=
  concatenate S15360x32000 1 (List.ofFn fun n : Fin 20 => (⟨S15360x1600, chunk a1 (o + n.val) (by omega)⟩ : (s : Shape) × (s.Idx → Ideal .f32)))
    concatenates_S15360x1600_S15360x1600_S15360x1600_S15360x1600_S15360x1600_S15360x1600_S15360x1600_S15360x1600_S15360x1600_S15360x1600_S15360x1600_S15360x1600_S15360x1600_S15360x1600_S15360x1600_S15360x1600_S15360x1600_S15360x1600_S15360x1600_S15360x1600_S15360x32000_d1

theorem lanes_apply (a1 : Vec Ideal S15360x128 .f32) (o : Nat) (h : o ≤ 100) (R : Fin 15360) (v : Fin 32000) :
    lanes a1 o h (ix2 R v) = a1 (ix2 R ⟨o + v.val / 1600, by omega⟩) := by
  have hv := v.isLt
  unfold lanes
  refine (concatenate_ofFn_apply (s₁ := S15360x1600) (1 : Fin S15360x32000.rank) (fun n : Fin 20 => chunk a1 (o + n.val) (by omega)) _ rfl 1600 rfl (ix2 R v)
    ⟨v.val / 1600, by omega⟩ rfl (ix2 R ⟨v.val % 1600, by omega⟩) rfl ?_).trans (chunk_apply a1 _ _ _)
  intro b hb
  fin_cases b
  · rfl
  · exact absurd rfl hb

theorem down_eq (a1 : Vec Ideal S15360x128 .f32) :
    k0_pay14 a1 (k0_pay3 a1) (k0_pay4 a1) (k0_pay5 a1) (k0_pay6 a1) (k0_pay7 a1) (k0_pay8 a1) (k0_pay9 a1) (k0_pay10 a1) (k0_pay11 a1) (k0_pay12 a1) (k0_pay13 a1)
      = lanes a1 0 (by decide) := by
  rfl

abbrev Dr := dot_S15360x32000_S4096x32000_S15360x4096_1_1_0_0_n_n

theorem lhs0 (j : S15360x4096.Idx) (k : Dr.contr.Idx) : (Dr.lhsIdx j k 0 : ℕ) = j 0 := by
  simp [DotDims.lhsIdx, Dr, dot_S15360x32000_S4096x32000_S15360x4096_1_1_0_0_n_n]; rfl
theorem lhs1 (j : S15360x4096.Idx) (k : Dr.contr.Idx) : (Dr.lhsIdx j k 1 : ℕ) = k ⟨0, by decide⟩ :=
  Dr.lhsIdx_val_of_single rfl j k
theorem rhs0 (j : S15360x4096.Idx) (k : Dr.contr.Idx) : (Dr.rhsIdx j k 0 : ℕ) = j 1 := by
  simp [DotDims.rhsIdx, Dr, dot_S15360x32000_S4096x32000_S15360x4096_1_1_0_0_n_n]; rfl
theorem rhs1 (j : S15360x4096.Idx) (k : Dr.contr.Idx) : (Dr.rhsIdx j k 1 : ℕ) = k ⟨0, by decide⟩ :=
  Dr.rhsIdx_val_of_single rfl j k

theorem dotAt (a : FVec Ideal S15360x32000 .bf16) (b : FVec Ideal S4096x32000 .bf16) (r : Fin 15360) (n : Fin 4096) :
    matmul (F := Ideal) (φ₁ := .bf16) (φ₂ := .bf16) Dr none a b (constant S15360x4096 .f32 0x00000000#32) (ix2 r n)
      = ∑ k : Fin 32000, a (ix2 r k) * b (ix2 n k) := by
  simp only [matmul]
  rw [Ideal.matmul_constant_zero_apply, ← Equiv.sum_comp (contrEquiv1 Dr 32000 rfl rfl).symm]
  refine Finset.sum_congr rfl fun k _ => ?_
  have hk := contrEquiv1_symm_val Dr 32000 rfl rfl k
  congr 2
  · apply Shape.idx_ext₂
    · rw [lhs0]; rfl
    · rw [lhs1, hk]; rfl
  · apply Shape.idx_ext₂
    · rw [rhs0]; rfl
    · rw [rhs1, hk]; rfl

/-- The gradient before its scales, at an index. -/
theorem grad_apply (a0 : Vec Ideal S15360x32000 .f32) (a1 : Vec Ideal S15360x128 .f32) (a2 : Vec Ideal S15360x1 .i32) (R : Fin 15360) (v : Fin 32000) :
    k0_pay2 (F := Ideal) a1 a0 a2 (ix2 R v) = a1 (ix2 R 66) * (Ideal.exp (a0 (ix2 R v) - a1 (ix2 R 64)) * a1 (ix2 R 65) - hot (a2 (ix2 R 0) = BitVec.ofNat 32 v.val)) := by
  have b : ∀ (w : FVec Ideal S15360x1 .f32), broadcastTo S15360x32000 w broadcasts_S15360x1_S15360x32000 (ix2 R v) = w (ix2 R 0) := fun w =>
    broadcastTo_apply w _ _ (ix2 R 0) (by intro a; fin_cases a <;> rfl)
  have bi : ∀ (w : IVec S15360x1 32), broadcastTo S15360x32000 w broadcasts_S15360x1_S15360x32000 (ix2 R v) = w (ix2 R 0) := fun w =>
    broadcastTo_apply w _ _ (ix2 R 0) (by intro a; fin_cases a <;> rfl)
  unfold k0_pay2
  dsimp only
  refine congrArg₂ (· * ·) ((b _).trans (lane_apply a1 66 (by decide) _ R)) (congrArg₂ (· - ·) (congrArg₂ (· * ·) ?_ ((b _).trans (lane_apply a1 65 (by decide) _ R))) ?_)
  · change Ideal.exp (a0 (ix2 R v) - broadcastTo S15360x32000 _ broadcasts_S15360x1_S15360x32000 (ix2 R v)) = _
    rw [b]
    exact congrArg (fun z => Ideal.exp (a0 (ix2 R v) - z)) (lane_apply a1 64 (by decide) _ R)
  · change Scalar.select (IntOp.cmpi .eq (BitVec.ofNat 32 (0 * 32000 + v.val)) (broadcastTo S15360x32000 a2 broadcasts_S15360x1_S15360x32000 (ix2 R v)))
      (Ideal.ofBits .f32 0x3F800000#32) (Ideal.ofBits .f32 0x00000000#32) = _
    rw [bi, show 0 * 32000 + v.val = v.val by omega]
    unfold hot
    by_cases h : a2 (ix2 R 0) = BitVec.ofNat 32 v.val
    · rw [if_pos h, h, show IntOp.cmpi .eq (BitVec.ofNat 32 v.val) (BitVec.ofNat 32 v.val) = 1#1 by simp [IntOp.cmpi]]
      rfl
    · have h2 : (BitVec.ofNat 32 v.val == a2 (ix2 R 0)) = false := beq_eq_false_iff_ne.2 (Ne.symm h)
      rw [if_neg h]
      simp only [IntOp.cmpi, h2]
      rfl

/-- The reference at an index. -/
theorem ref_apply (a0 : Vec Ideal S15360x32000 .f32) (a1 : Vec Ideal S15360x128 .f32) (a2 : Vec Ideal S15360x1 .i32) (a3 : Vec Ideal S4096x32000 .fp8e4m3)
    (a4 : Vec Ideal S1x32000 .f32) (R : Fin 15360) (n : Fin 4096) :
    Cert.GradRefIdeal.Value.G5 (F := Ideal) a0 a1 a2 a3 a4 (ix2 R n)
      = ∑ v : Fin 32000, GradState.A a0 a1 a2 a4 R.val v * GradState.W a3 n.val v := by
  unfold Cert.GradRefIdeal.Value.G5
  rw [down_eq]
  unfold k0_pay1
  refine (dotAt _ _ R n).trans (Finset.sum_congr rfl fun v _ => ?_)
  unfold GradState.A GradState.W
  rw [dif_pos ⟨R.isLt, v.isLt⟩, dif_pos ⟨n.isLt, v.isLt⟩]
  have hw : ∀ w : FVec Ideal S1x32000 .bf16, broadcastTo S4096x32000 w broadcasts_S1x32000_S4096x32000 (ix2 n v) = w (ix2 0 v) := fun w =>
    broadcastTo_apply w _ _ (ix2 0 v) (by intro a; fin_cases a <;> rfl)
  have e : ∀ (g d u w s : EReal), (min (Ideal.ofBits .f32 0x47600000#32) (max (Ideal.ofBits .f32 0xC7600000#32) (g * d)) * u) * (w * s)
      = min (Ideal.ofBits .f32 0x47600000#32) (max (Ideal.ofBits .f32 0xC7600000#32) (g * d)) * u * s * w := fun g d u w s => by
    rw [mul_comm w s, mul_assoc, mul_assoc, mul_assoc]
  have k : ∀ (co p d : EReal), co * p * d = p * (d * co) := fun co p d => by rw [mul_comm co p, mul_assoc, mul_comm co d]
  refine Eq.trans (b := (min (Ideal.ofBits .f32 0x47600000#32) (max (Ideal.ofBits .f32 0xC7600000#32)
      (k0_pay2 (F := Ideal) a1 a0 a2 (ix2 R v) * lanes a1 0 (by decide) (ix2 R v))) * lanes a1 32 (by decide) (ix2 R v)) * (a3 (ix2 n v) * a4 (ix2 0 v))) ?_ ?_
  · refine congrArg₂ (· * ·) ?_ (congrArg₂ (· * ·) rfl ((hw _).trans rfl))
    rfl
  · rw [e, grad_apply, lanes_apply, lanes_apply, k (a1 (ix2 R 66))]
    unfold cell
    simp only [Nat.zero_add]

end Cert.Proof.GradRefValue

end
-- ==== Proof.GradClaims.lean ====
/-
  The claim of the gradient call that is not generated: that the gradient it writes is the reference's.
-/
module

public import proofs.«01_k».proof.Defs
public import proofs.«01_k».proof.Proof.Gen.GradRefIdeal.Value
public import proofs.«01_k».proof.Proof.GradMain
public import proofs.«01_k».proof.Proof.GradRefValue

@[expose] public section

noncomputable section

namespace Cert.Proof.GradClaims

open Idealize.ShloMosaic Idealize.ShloMosaic.TcCoe Idealize.SL.Sem
open Cert.GradIdeal Cert.GradIdeal.Gen Cert.Proof.GradPoint Cert.Proof.GradMain
open Cert.Proof.GradIdealFrame (forgets0)

theorem congr5 {α β γ δ ε ζ : Type*} (f : α → β → γ → δ → ε → ζ) {a a' : α} {b b' : β} {c c' : γ} {d d' : δ} {e e' : ε} (ha : a = a') (hb : b = b')
    (hc : c = c') (hd : d = d') (he : e = e') : f a b c d e = f a' b' c' d' e' := by subst ha hb hc hd he; rfl

variable (m : (ℓ : Loc nD τ sig) → Buf (Elt Ideal) ℓ) (ρ : Dev nD → PrngReg)

/-- The array that the call writes is the reference of its arguments. -/
theorem product_eq (c : Dev nD) : product m c = Cert.GradRefIdeal.Value.G5 (F := Ideal) (G0 m c) (G1 m c) (G2 m c) (G3 m c) (G4 m c) := by
  funext x
  obtain ⟨R, n, rfl⟩ : ∃ (R : Fin 15360) (n : Fin 4096), x = ValueIdx.ix2 R n := ⟨x 0, x 1, by funext a; fin_cases a <;> rfl⟩
  exact (GradRefValue.ref_apply (G0 m c) (G1 m c) (G2 m c) (G3 m c) (G4 m c) R n).symm

/-- The run of the call: the output is the reference of the arguments, and these stand as they were. -/
theorem run : θ_run defs (onTc (τ := τ) (main (F := Ideal))) ⟨m, fun _ => 0, ρ⟩ (fun r => ∀ c : Dev nD,
      r.2.mem ((c.tc : Thread nD τ).loc main_v1) = Cert.GradRefIdeal.Value.G5 (F := Ideal) (G0 m c) (G1 m c) (G2 m c) (G3 m c) (G4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hin : ∀ r : PUnit × MemSt nD τ sig (Elt Ideal),
      Pipeline.RDat.FramePost (cfgs 0) (fun c => (dats m 0 c).toRRel forgets0 (Rl m c)) (V m) r → ∀ (c : Dev nD) (w : Fin cfg0.W),
      (cfg0.win w).isOut = false → r.2.mem ((cfg0.spec w).arr.view.loc (c.tc : Thread nD τ)) = V m c (Pipeline.arrRef spec0 w) :=
    fun r h c w hw => (Pipeline.RDat.FramePostR.arr_in (R := ∅) (fun c => ⟨(h c).1, fun b hb => (h c).2 b (Finset.sdiff_subset hb)⟩) c w hw).trans (A_eq m c w)
  refine (θ_run defs _ _).mono (fun r h c => ⟨(final m r h.1 c).trans (product_eq m c), ?_, ?_, ?_, ?_, ?_⟩) (run_main m ρ)
  · exact (hin r h.1 c 0 rfl).trans (V_main_arg0 m c)
  · exact (hin r h.1 c 1 rfl).trans (V_main_arg1 m c)
  · exact (hin r h.1 c 2 rfl).trans (V_main_arg2 m c)
  · exact (hin r h.1 c 4 rfl).trans (V_main_arg3 m c)
  · exact ((h.1 c).2 main_arg4 (Pipeline.mem_restRefs_of main_arg4 (by decide) (by decide))).trans (V_main_arg4 m c)

theorem algebraic : Cert.algebraic_GradIdeal_GradRefIdeal := fun m ρ m' ρ' _ hag =>
  ⟨fun c => Cert.GradRefIdeal.Value.G5 (F := Ideal) (G0 m c) (G1 m c) (G2 m c) (G3 m c) (G4 m c), run m ρ,
   (θ_run Cert.GradRefIdeal.defs _ _).mono (fun _ h c => ⟨(h c).1.trans (congr5 Cert.GradRefIdeal.Value.G5 (hag c).1 (hag c).2.1 (hag c).2.2.1 (hag c).2.2.2.1 (hag c).2.2.2.2),
     (h c).2⟩)
     (Cert.GradRefIdeal.Value.run m' ρ')⟩

end Cert.Proof.GradClaims

end
-- ==== Proof.lean ====
/-
  The proof of `Cert.Claim` (proofs.«01_k».proof.Defs) for the logits call, the derivative call, the
  weight-gradient call and the gradient call: their frames, that each ideal program is the program's own text, and that at the
  extended reals each leaves what its plain reference leaves.
-/
module

public import proofs.«01_k».proof.Defs
public import proofs.«01_k».proof.Proof.Gen.Logits
public import proofs.«01_k».proof.Proof.Gen.Logits.Skeleton
public import proofs.«01_k».proof.Proof.Gen.Logits.Launch
public import proofs.«01_k».proof.Proof.Gen.Logits.Points
public import proofs.«01_k».proof.Proof.Gen.Logits.Frame
public import proofs.«01_k».proof.Proof.Gen.LogitsIdeal
public import proofs.«01_k».proof.Proof.Gen.LogitsIdeal.Skeleton
public import proofs.«01_k».proof.Proof.Gen.LogitsIdeal.Launch
public import proofs.«01_k».proof.Proof.Gen.LogitsIdeal.Points
public import proofs.«01_k».proof.Proof.Gen.LogitsIdeal.Frame
public import proofs.«01_k».proof.Proof.Gen.LogitsRefIdeal
public import proofs.«01_k».proof.Proof.Gen.LogitsRefIdeal.Skeleton
public import proofs.«01_k».proof.Proof.Gen.LogitsRefIdeal.Launch
public import proofs.«01_k».proof.Proof.Gen.LogitsRefIdeal.Points
public import proofs.«01_k».proof.Proof.Gen.LogitsRefIdeal.Frame
public import proofs.«01_k».proof.Proof.Gen.LogitsIdeal.Value
public import proofs.«01_k».proof.Proof.Gen.LogitsRefIdeal.Value
public import proofs.«01_k».proof.Proof.LogitsClaims
public import proofs.«01_k».proof.Proof.Gen.Dz.Frame
public import proofs.«01_k».proof.Proof.Gen.DzIdeal.Frame
public import proofs.«01_k».proof.Proof.Gen.DzRefIdeal
public import proofs.«01_k».proof.Proof.Gen.DzIdeal.Value
public import proofs.«01_k».proof.Proof.Gen.DzRefIdeal.Run
public import proofs.«01_k».proof.Proof.Gen.DzRefIdeal.Read
public import proofs.«01_k».proof.Proof.DzClaims
public import proofs.«01_k».proof.Proof.Gen.Dw.Frame
public import proofs.«01_k».proof.Proof.Gen.DwIdeal.Frame
public import proofs.«01_k».proof.Proof.Gen.DwRefIdeal
public import proofs.«01_k».proof.Proof.Gen.DwIdeal.Value
public import proofs.«01_k».proof.Proof.Gen.DwRefIdeal.Run
public import proofs.«01_k».proof.Proof.Gen.DwRefIdeal.Read
public import proofs.«01_k».proof.Proof.DwClaims
public import proofs.«01_k».proof.Proof.Gen.Grad
public import proofs.«01_k».proof.Proof.Gen.Grad.Skeleton
public import proofs.«01_k».proof.Proof.Gen.Grad.Launch
public import proofs.«01_k».proof.Proof.Gen.Grad.Points
public import proofs.«01_k».proof.Proof.Gen.Grad.Frame
public import proofs.«01_k».proof.Proof.Gen.GradIdeal
public import proofs.«01_k».proof.Proof.Gen.GradIdeal.Skeleton
public import proofs.«01_k».proof.Proof.Gen.GradIdeal.Launch
public import proofs.«01_k».proof.Proof.Gen.GradIdeal.Points
public import proofs.«01_k».proof.Proof.Gen.GradIdeal.Frame
public import proofs.«01_k».proof.Proof.Gen.GradRefIdeal
public import proofs.«01_k».proof.Proof.Gen.GradRefIdeal.Skeleton
public import proofs.«01_k».proof.Proof.Gen.GradRefIdeal.Launch
public import proofs.«01_k».proof.Proof.Gen.GradRefIdeal.Points
public import proofs.«01_k».proof.Proof.Gen.GradRefIdeal.Frame
public import proofs.«01_k».proof.Proof.Gen.GradRefIdeal.Value
public import proofs.«01_k».proof.Proof.GradFrame
public import proofs.«01_k».proof.Proof.GradIdealFrame
public import proofs.«01_k».proof.Proof.GradClaims
public import Idealize.ShloMosaic.Adequacy
public import Idealize.ShloMosaic.Init

@[expose] public section

noncomputable section

namespace Cert.Proof

open Idealize.ShloMosaic Idealize.SL.Sem

theorem claim : Cert.Claim := ⟨Cert.Logits.Gen.facts, Cert.LogitsIdeal.Gen.facts, Cert.LogitsRefIdeal.Gen.facts,
  Cert.Dz.Gen.facts, Cert.DzIdeal.Gen.facts, Cert.DzRefIdeal.Gen.facts, Cert.Dw.Gen.facts, Cert.DwIdeal.Gen.facts, Cert.DwRefIdeal.Gen.facts,
  Cert.Grad.Gen.facts, Cert.GradIdeal.Gen.facts, Cert.GradRefIdeal.Gen.facts,
  fun m ρ _ => Cert.Logits.Gen.frame m ρ, fun m ρ _ => Cert.LogitsIdeal.Gen.frame m ρ, fun m ρ _ => Cert.LogitsRefIdeal.Gen.frame m ρ,
  fun m ρ _ => Cert.Dz.Gen.frame m ρ, fun m ρ _ => Cert.DzIdeal.Gen.frame m ρ, DzClaims.frame_ref,
  fun m ρ _ => Cert.Dw.Gen.frame m ρ, fun m ρ _ => Cert.DwIdeal.Gen.frame m ρ, DwClaims.frame_ref,
  fun m ρ _ => GradFrame.frame m ρ, fun m ρ _ => GradIdealFrame.frame m ρ, fun m ρ _ => Cert.GradRefIdeal.Gen.frame m ρ,
  trivial, LogitsClaims.algebraic, trivial, DzClaims.algebraic, trivial, DwClaims.algebraic, trivial, GradClaims.algebraic⟩

end Cert.Proof
